-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3x200x200 : Shape := ⟨4, ![2, 3, 200, 200]⟩
abbrev S2x12x200x200 : Shape := ⟨4, ![2, 12, 200, 200]⟩
abbrev S2x120000x4 : Shape := ⟨3, ![2, 120000, 4]⟩
abbrev S2x200x200x3 : Shape := ⟨4, ![2, 200, 200, 3]⟩
abbrev S2x120000 : Shape := ⟨2, ![2, 120000]⟩
abbrev S_ : Shape := ⟨0, ![]⟩
abbrev S2x1000 : Shape := ⟨2, ![2, 1000]⟩
abbrev S2x1024 : Shape := ⟨2, ![2, 1024]⟩
abbrev S2x1x1024 : Shape := ⟨3, ![2, 1, 1024]⟩
abbrev S2x3x4x200x200 : Shape := ⟨5, ![2, 3, 4, 200, 200]⟩
abbrev S2x200x200x3x4 : Shape := ⟨5, ![2, 200, 200, 3, 4]⟩
abbrev S2x120000x8 : Shape := ⟨3, ![2, 120000, 8]⟩
abbrev S2x120832x8 : Shape := ⟨3, ![2, 120832, 8]⟩
abbrev S2x59x2048x8 : Shape := ⟨4, ![2, 59, 2048, 8]⟩
abbrev S2x59x8x2048 : Shape := ⟨4, ![2, 59, 8, 2048]⟩
abbrev S2x8x304 : Shape := ⟨3, ![2, 8, 304]⟩
abbrev S1x1x1024 : Shape := ⟨3, ![1, 1, 1024]⟩
abbrev S1x59x8x2048 : Shape := ⟨4, ![1, 59, 8, 2048]⟩
abbrev S1x8x304 : Shape := ⟨3, ![1, 8, 304]⟩
abbrev S1024x1024 : Shape := ⟨2, ![1024, 1024]⟩
abbrev S1x1024 : Shape := ⟨2, ![1, 1024]⟩
abbrev S8x1024 : Shape := ⟨2, ![8, 1024]⟩
abbrev S1x1x8x2048 : Shape := ⟨4, ![1, 1, 8, 2048]⟩
abbrev S8x2048 : Shape := ⟨2, ![8, 2048]⟩
abbrev S2048x1024 : Shape := ⟨2, ![2048, 1024]⟩
abbrev S1x128 : Shape := ⟨2, ![1, 128]⟩
abbrev S128 : Shape := ⟨1, ![128]⟩
abbrev S128x1 : Shape := ⟨2, ![128, 1]⟩
abbrev S128x1024 : Shape := ⟨2, ![128, 1024]⟩
abbrev S128x128 : Shape := ⟨2, ![128, 128]⟩
abbrev S1x1 : Shape := ⟨2, ![1, 1]⟩
abbrev S1024 : Shape := ⟨1, ![1024]⟩
abbrev S1x896 : Shape := ⟨2, ![1, 896]⟩
abbrev S1x768 : Shape := ⟨2, ![1, 768]⟩
abbrev S1x256 : Shape := ⟨2, ![1, 256]⟩
abbrev S1x640 : Shape := ⟨2, ![1, 640]⟩
abbrev S1x384 : Shape := ⟨2, ![1, 384]⟩
abbrev S1x512 : Shape := ⟨2, ![1, 512]⟩
abbrev S1024x304 : Shape := ⟨2, ![1024, 304]⟩
abbrev S1024x1 : Shape := ⟨2, ![1024, 1]⟩
abbrev S3x1024 : Shape := ⟨2, ![3, 1024]⟩
abbrev S8x304 : Shape := ⟨2, ![8, 304]⟩
abbrev S2x4x300 : Shape := ⟨3, ![2, 4, 300]⟩
abbrev S2x300x4 : Shape := ⟨3, ![2, 300, 4]⟩
abbrev S2x1x300 : Shape := ⟨3, ![2, 1, 300]⟩
abbrev S2x300 : Shape := ⟨2, ![2, 300]⟩
abbrev S2x300x1 : Shape := ⟨3, ![2, 300, 1]⟩
abbrev S2x300x5 : Shape := ⟨3, ![2, 300, 5]⟩

abbrev nBuf : Space → Nat
  | .hbm => 39
  | .vmem => 9
  | .smem => 0
  | _ => 0

abbrev bufTy : (tb : Table) → Fin (tcTables nBuf tb) → BufTy
  | .hbm, ⟨0, _⟩ => ⟨S2x3x200x200, .f32⟩
  | .hbm, ⟨1, _⟩ => ⟨S2x12x200x200, .f32⟩
  | .hbm, ⟨2, _⟩ => ⟨S2x120000x4, .f32⟩
  | .hbm, ⟨3, _⟩ => ⟨S2x200x200x3, .f32⟩
  | .hbm, ⟨4, _⟩ => ⟨S2x120000, .f32⟩
  | .hbm, ⟨5, _⟩ => ⟨S2x120000, .f32⟩
  | .hbm, ⟨6, _⟩ => ⟨S2x120000, .f32⟩
  | .hbm, ⟨7, _⟩ => ⟨S_, .f32⟩
  | .hbm, ⟨8, _⟩ => ⟨S2x120000, .f32⟩
  | .hbm, ⟨9, _⟩ => ⟨S2x120000, .f32⟩
  | .hbm, ⟨10, _⟩ => ⟨S_, .f32⟩
  | .hbm, ⟨11, _⟩ => ⟨S2x120000, .f32⟩
  | .hbm, ⟨12, _⟩ => ⟨S2x120000, .f32⟩
  | .hbm, ⟨13, _⟩ => ⟨S2x1000, .f32⟩
  | .hbm, ⟨14, _⟩ => ⟨S2x1000, .i32⟩
  | .hbm, ⟨15, _⟩ => ⟨S_, .f32⟩
  | .hbm, ⟨16, _⟩ => ⟨S_, .f32⟩
  | .hbm, ⟨17, _⟩ => ⟨S2x1024, .f32⟩
  | .hbm, ⟨18, _⟩ => ⟨S2x1x1024, .f32⟩
  | .hbm, ⟨19, _⟩ => ⟨S_, .i32⟩
  | .hbm, ⟨20, _⟩ => ⟨S_, .i32⟩
  | .hbm, ⟨21, _⟩ => ⟨S2x1024, .i32⟩
  | .hbm, ⟨22, _⟩ => ⟨S2x1x1024, .i32⟩
  | .hbm, ⟨23, _⟩ => ⟨S2x3x4x200x200, .f32⟩
  | .hbm, ⟨24, _⟩ => ⟨S2x200x200x3x4, .f32⟩
  | .hbm, ⟨25, _⟩ => ⟨S2x120000x4, .f32⟩
  | .hbm, ⟨26, _⟩ => ⟨S2x120000x8, .f32⟩
  | .hbm, ⟨27, _⟩ => ⟨S_, .i32⟩
  | .hbm, ⟨28, _⟩ => ⟨S_, .f32⟩
  | .hbm, ⟨29, _⟩ => ⟨S2x120832x8, .f32⟩
  | .hbm, ⟨30, _⟩ => ⟨S2x59x2048x8, .f32⟩
  | .hbm, ⟨31, _⟩ => ⟨S2x59x8x2048, .f32⟩
  | .hbm, ⟨32, _⟩ => ⟨S2x8x304, .f32⟩
  | .hbm, ⟨33, _⟩ => ⟨S2x4x300, .f32⟩
  | .hbm, ⟨34, _⟩ => ⟨S2x300x4, .f32⟩
  | .hbm, ⟨35, _⟩ => ⟨S2x1x300, .f32⟩
  | .hbm, ⟨36, _⟩ => ⟨S2x300, .f32⟩
  | .hbm, ⟨37, _⟩ => ⟨S2x300x1, .f32⟩
  | .hbm, ⟨38, _⟩ => ⟨S2x300x5, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .i32⟩
  | .local _ .vmem, ⟨3, _⟩ => ⟨S1x1x1024, .i32⟩
  | .local _ .vmem, ⟨4, _⟩ => ⟨S1x59x8x2048, .f32⟩
  | .local _ .vmem, ⟨5, _⟩ => ⟨S1x59x8x2048, .f32⟩
  | .local _ .vmem, ⟨6, _⟩ => ⟨S1x8x304, .f32⟩
  | .local _ .vmem, ⟨7, _⟩ => ⟨S1x8x304, .f32⟩
  | .local _ .vmem, ⟨8, _⟩ => ⟨S1024x1024, .f32⟩
  | _, _ => ⟨S2x3x200x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_values : Ref sig .tc := ⟨.hbm, 13, rfl⟩
abbrev main_indices : Ref sig .tc := ⟨.hbm, 14, rfl⟩
abbrev main_cst_1 : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_call2_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c59_i32 : BitVec 32 := 59#32
  let v5 : BitVec 32 := Scalar.addi c0_i32 c59_i32
  let c1_i32 : BitVec 32 := 1#32
  ⟨c0_i32, v5, c1_i32⟩
def k0_off1 (k0_t1 : Fin k0_t1_loop.trips) : Fin 4 → Nat :=
  let c0_2049 : Index := 0#32
  let c0_i32 : BitVec 32 := 0#32
  let c1_i32 : BitVec 32 := 1#32
  let arg6 : BitVec 32 := Scf.iv c0_i32 c1_i32 k0_t1
  let v12887 : Index := Scalar.indexCast arg6
  let c0_2050 : Index := 0#32
  let c0_2051 : Index := 0#32
  ![0, v12887.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x59x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x3x200x200 : Shape := ⟨4, ![2, 3, 200, 200]⟩
abbrev S2x12x200x200 : Shape := ⟨4, ![2, 12, 200, 200]⟩
abbrev S2x120000x4 : Shape := ⟨3, ![2, 120000, 4]⟩
abbrev S2x200x200x3 : Shape := ⟨4, ![2, 200, 200, 3]⟩
abbrev S2x120000 : Shape := ⟨2, ![2, 120000]⟩
abbrev S_ : Shape := ⟨0, ![]⟩
abbrev S2x3x4x200x200 : Shape := ⟨5, ![2, 3, 4, 200, 200]⟩
abbrev S2x200x200x3x4 : Shape := ⟨5, ![2, 200, 200, 3, 4]⟩
abbrev S2x1000 : Shape := ⟨2, ![2, 1000]⟩
abbrev S2x1000x1 : Shape := ⟨3, ![2, 1000, 1]⟩
abbrev S2x1000x4 : Shape := ⟨3, ![2, 1000, 4]⟩
abbrev S2x1x1000 : Shape := ⟨3, ![2, 1, 1000]⟩
abbrev S2x1000x1000 : Shape := ⟨3, ![2, 1000, 1000]⟩
abbrev S1000 : Shape := ⟨1, ![1000]⟩
abbrev S2x1 : Shape := ⟨2, ![2, 1]⟩
abbrev S1x1000 : Shape := ⟨2, ![1, 1000]⟩
abbrev S2x300 : Shape := ⟨2, ![2, 300]⟩
abbrev S2x300x1 : Shape := ⟨3, ![2, 300, 1]⟩
abbrev S2x300x4 : Shape := ⟨3, ![2, 300, 4]⟩
abbrev S2x300x5 : Shape := ⟨3, ![2, 300, 5]⟩

abbrev nBuf : Space → Nat
  | .hbm => 277
  | .vmem => 0
  | .smem => 0
  | _ => 0

abbrev hbmTy0_0 (i : Nat) : BufTy := match i % 128 with
  | 0 => ⟨S2x3x200x200, .f32⟩
  | 1 => ⟨S2x12x200x200, .f32⟩
  | 2 => ⟨S2x120000x4, .f32⟩
  | 3 => ⟨S2x200x200x3, .f32⟩
  | 4 => ⟨S2x120000, .f32⟩
  | 5 => ⟨S2x120000, .f32⟩
  | 6 => ⟨S2x120000, .f32⟩
  | 7 => ⟨S_, .f32⟩
  | 8 => ⟨S2x120000, .f32⟩
  | 9 => ⟨S2x120000, .f32⟩
  | 10 => ⟨S_, .f32⟩
  | 11 => ⟨S2x120000, .f32⟩
  | 12 => ⟨S2x120000, .f32⟩
  | 13 => ⟨S2x3x4x200x200, .f32⟩
  | 14 => ⟨S2x200x200x3x4, .f32⟩
  | 15 => ⟨S2x120000x4, .f32⟩
  | 16 => ⟨S2x1000, .f32⟩
  | 17 => ⟨S2x1000, .i32⟩
  | 18 => ⟨S_, .i32⟩
  | 19 => ⟨S2x1000, .i32⟩
  | 20 => ⟨S2x1000, .i1⟩
  | 21 => ⟨S_, .i32⟩
  | 22 => ⟨S2x1000, .i32⟩
  | 23 => ⟨S2x1000, .i32⟩
  | 24 => ⟨S2x1000, .i32⟩
  | 25 => ⟨S2x1000x1, .i32⟩
  | 26 => ⟨S2x1000x4, .f32⟩
  | 27 => ⟨S_, .i32⟩
  | 28 => ⟨S2x1000, .i32⟩
  | 29 => ⟨S2x1000, .i1⟩
  | 30 => ⟨S_, .i32⟩
  | 31 => ⟨S2x1000, .i32⟩
  | 32 => ⟨S2x1000, .i32⟩
  | 33 => ⟨S2x1000, .i32⟩
  | 34 => ⟨S2x1000x1, .i32⟩
  | 35 => ⟨S2x1000x4, .f32⟩
  | 36 => ⟨S2x1000x1, .f32⟩
  | 37 => ⟨S2x1000, .f32⟩
  | 38 => ⟨S2x1000x1, .f32⟩
  | 39 => ⟨S2x1000, .f32⟩
  | 40 => ⟨S2x1000, .f32⟩
  | 41 => ⟨S_, .f32⟩
  | 42 => ⟨S2x1000, .f32⟩
  | 43 => ⟨S2x1000, .f32⟩
  | 44 => ⟨S2x1000x1, .f32⟩
  | 45 => ⟨S2x1000, .f32⟩
  | 46 => ⟨S2x1000x1, .f32⟩
  | 47 => ⟨S2x1000, .f32⟩
  | 48 => ⟨S2x1000, .f32⟩
  | 49 => ⟨S_, .f32⟩
  | 50 => ⟨S2x1000, .f32⟩
  | 51 => ⟨S2x1000, .f32⟩
  | 52 => ⟨S2x1000x1, .f32⟩
  | 53 => ⟨S2x1000, .f32⟩
  | 54 => ⟨S_, .f32⟩
  | 55 => ⟨S2x1000, .f32⟩
  | 56 => ⟨S2x1000, .f32⟩
  | 57 => ⟨S2x1000, .f32⟩
  | 58 => ⟨S2x1000x1, .f32⟩
  | 59 => ⟨S2x1000, .f32⟩
  | 60 => ⟨S_, .f32⟩
  | 61 => ⟨S2x1000, .f32⟩
  | 62 => ⟨S2x1000, .f32⟩
  | 63 => ⟨S2x1000, .f32⟩
  | 64 => ⟨S2x1000x1, .f32⟩
  | 65 => ⟨S2x1000, .f32⟩
  | 66 => ⟨S_, .f32⟩
  | 67 => ⟨S2x1000, .f32⟩
  | 68 => ⟨S2x1000, .f32⟩
  | 69 => ⟨S2x1000x1, .f32⟩
  | 70 => ⟨S2x1000, .f32⟩
  | 71 => ⟨S_, .f32⟩
  | 72 => ⟨S2x1000, .f32⟩
  | 73 => ⟨S2x1000, .f32⟩
  | 74 => ⟨S2x1000x1, .f32⟩
  | 75 => ⟨S2x1000, .f32⟩
  | 76 => ⟨S_, .f32⟩
  | 77 => ⟨S2x1000, .f32⟩
  | 78 => ⟨S2x1000, .f32⟩
  | 79 => ⟨S_, .f32⟩
  | 80 => ⟨S2x1000, .f32⟩
  | 81 => ⟨S2x1000, .f32⟩
  | 82 => ⟨S2x1000x1, .f32⟩
  | 83 => ⟨S2x1000, .f32⟩
  | 84 => ⟨S_, .f32⟩
  | 85 => ⟨S2x1000, .f32⟩
  | 86 => ⟨S2x1000, .f32⟩
  | 87 => ⟨S_, .f32⟩
  | 88 => ⟨S2x1000, .f32⟩
  | 89 => ⟨S2x1000, .f32⟩
  | 90 => ⟨S2x1000, .f32⟩
  | 91 => ⟨S2x1000, .f32⟩
  | 92 => ⟨S2x1000, .f32⟩
  | 93 => ⟨S2x1000, .f32⟩
  | 94 => ⟨S2x1000, .f32⟩
  | 95 => ⟨S2x1000, .f32⟩
  | 96 => ⟨S2x1000, .f32⟩
  | 97 => ⟨S2x1000, .f32⟩
  | 98 => ⟨S_, .f32⟩
  | 99 => ⟨S2x1000, .f32⟩
  | 100 => ⟨S2x1000, .f32⟩
  | 101 => ⟨S2x1000, .f32⟩
  | 102 => ⟨S_, .f32⟩
  | 103 => ⟨S2x1000, .f32⟩
  | 104 => ⟨S2x1000, .f32⟩
  | 105 => ⟨S2x1000, .f32⟩
  | 106 => ⟨S_, .f32⟩
  | 107 => ⟨S2x1000, .f32⟩
  | 108 => ⟨S2x1000, .f32⟩
  | 109 => ⟨S2x1000, .f32⟩
  | 110 => ⟨S_, .f32⟩
  | 111 => ⟨S2x1000, .f32⟩
  | 112 => ⟨S2x1000, .f32⟩
  | 113 => ⟨S_, .f32⟩
  | 114 => ⟨S2x1000, .f32⟩
  | 115 => ⟨S2x1000, .f32⟩
  | 116 => ⟨S2x1000, .f32⟩
  | 117 => ⟨S_, .f32⟩
  | 118 => ⟨S2x1000, .f32⟩
  | 119 => ⟨S2x1000, .f32⟩
  | 120 => ⟨S_, .f32⟩
  | 121 => ⟨S2x1000, .f32⟩
  | 122 => ⟨S2x1000, .f32⟩
  | 123 => ⟨S_, .f32⟩
  | 124 => ⟨S2x1000, .f32⟩
  | 125 => ⟨S2x1000, .f32⟩
  | 126 => ⟨S_, .f32⟩
  | 127 => ⟨S2x1000, .f32⟩
  | _ => ⟨S2x3x200x200, .f32⟩

abbrev hbmTy0_1 (i : Nat) : BufTy := match i % 128 with
  | 0 => ⟨S2x1000, .f32⟩
  | 1 => ⟨S_, .f32⟩
  | 2 => ⟨S2x1000, .f32⟩
  | 3 => ⟨S2x1000, .f32⟩
  | 4 => ⟨S_, .f32⟩
  | 5 => ⟨S2x1000, .f32⟩
  | 6 => ⟨S2x1000, .f32⟩
  | 7 => ⟨S_, .f32⟩
  | 8 => ⟨S2x1000, .f32⟩
  | 9 => ⟨S2x1000, .f32⟩
  | 10 => ⟨S_, .f32⟩
  | 11 => ⟨S2x1000, .f32⟩
  | 12 => ⟨S2x1000, .f32⟩
  | 13 => ⟨S_, .f32⟩
  | 14 => ⟨S2x1000, .f32⟩
  | 15 => ⟨S2x1000, .f32⟩
  | 16 => ⟨S2x1000, .f32⟩
  | 17 => ⟨S_, .f32⟩
  | 18 => ⟨S2x1000, .f32⟩
  | 19 => ⟨S2x1000, .f32⟩
  | 20 => ⟨S_, .f32⟩
  | 21 => ⟨S2x1000, .f32⟩
  | 22 => ⟨S2x1000, .i1⟩
  | 23 => ⟨S2x1000, .f32⟩
  | 24 => ⟨S_, .f32⟩
  | 25 => ⟨S2x1000, .f32⟩
  | 26 => ⟨S2x1000, .f32⟩
  | 27 => ⟨S_, .f32⟩
  | 28 => ⟨S2x1000, .f32⟩
  | 29 => ⟨S2x1000, .i1⟩
  | 30 => ⟨S2x1000, .i1⟩
  | 31 => ⟨S2x1000, .f32⟩
  | 32 => ⟨S_, .f32⟩
  | 33 => ⟨S2x1000, .f32⟩
  | 34 => ⟨S2x1000, .f32⟩
  | 35 => ⟨S2x1000, .f32⟩
  | 36 => ⟨S_, .f32⟩
  | 37 => ⟨S2x1000, .f32⟩
  | 38 => ⟨S2x1000, .f32⟩
  | 39 => ⟨S2x1000, .f32⟩
  | 40 => ⟨S2x1000x1, .f32⟩
  | 41 => ⟨S2x1x1000, .f32⟩
  | 42 => ⟨S2x1000x1000, .f32⟩
  | 43 => ⟨S2x1000x1000, .f32⟩
  | 44 => ⟨S2x1000x1000, .f32⟩
  | 45 => ⟨S2x1000x1, .f32⟩
  | 46 => ⟨S2x1x1000, .f32⟩
  | 47 => ⟨S2x1000x1000, .f32⟩
  | 48 => ⟨S2x1000x1000, .f32⟩
  | 49 => ⟨S2x1000x1000, .f32⟩
  | 50 => ⟨S2x1000x1, .f32⟩
  | 51 => ⟨S2x1x1000, .f32⟩
  | 52 => ⟨S2x1000x1000, .f32⟩
  | 53 => ⟨S2x1000x1000, .f32⟩
  | 54 => ⟨S2x1000x1000, .f32⟩
  | 55 => ⟨S2x1000x1, .f32⟩
  | 56 => ⟨S2x1x1000, .f32⟩
  | 57 => ⟨S2x1000x1000, .f32⟩
  | 58 => ⟨S2x1000x1000, .f32⟩
  | 59 => ⟨S2x1000x1000, .f32⟩
  | 60 => ⟨S2x1000x1000, .f32⟩
  | 61 => ⟨S_, .f32⟩
  | 62 => ⟨S2x1000x1000, .f32⟩
  | 63 => ⟨S2x1000x1000, .f32⟩
  | 64 => ⟨S_, .f32⟩
  | 65 => ⟨S2x1000x1000, .f32⟩
  | 66 => ⟨S2x1000x1000, .f32⟩
  | 67 => ⟨S2x1000x1000, .f32⟩
  | 68 => ⟨S_, .f32⟩
  | 69 => ⟨S2x1000x1000, .f32⟩
  | 70 => ⟨S2x1000x1000, .f32⟩
  | 71 => ⟨S_, .f32⟩
  | 72 => ⟨S2x1000x1000, .f32⟩
  | 73 => ⟨S2x1000x1000, .f32⟩
  | 74 => ⟨S2x1000x1000, .f32⟩
  | 75 => ⟨S2x1000x1, .f32⟩
  | 76 => ⟨S2x1x1000, .f32⟩
  | 77 => ⟨S2x1000x1000, .f32⟩
  | 78 => ⟨S2x1000x1000, .f32⟩
  | 79 => ⟨S2x1000x1000, .f32⟩
  | 80 => ⟨S2x1000x1000, .f32⟩
  | 81 => ⟨S2x1000x1000, .f32⟩
  | 82 => ⟨S1000, .i32⟩
  | 83 => ⟨S_, .i32⟩
  | 84 => ⟨S_, .i32⟩
  | 85 => ⟨S2x1000x1000, .f32⟩
  | 86 => ⟨S1000, .i32⟩
  | 87 => ⟨S_, .i32⟩
  | 88 => ⟨S_, .i32⟩
  | 89 => ⟨S2x1000, .i1⟩
  | 90 => ⟨S_, .i32⟩
  | 91 => ⟨S_, .i1⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S2x1, .i1⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S2x1x1000, .f32⟩
  | 111 => ⟨S2x1000, .f32⟩
  | 112 => ⟨S_, .f32⟩
  | 113 => ⟨S2x1000, .f32⟩
  | 114 => ⟨S2x1000, .i1⟩
  | 115 => ⟨S2x1000, .i1⟩
  | 116 => ⟨S2x1000, .i1⟩
  | 117 => ⟨S_, .i32⟩
  | 118 => ⟨S1000, .i32⟩
  | 119 => ⟨S1000, .i1⟩
  | 120 => ⟨S1x1000, .i1⟩
  | 121 => ⟨S2x1000, .i1⟩
  | 122 => ⟨S2x1000, .i1⟩
  | 123 => ⟨S2x1000, .i1⟩
  | 124 => ⟨S2x1000, .i1⟩
  | 125 => ⟨S_, .i32⟩
  | 126 => ⟨S_, .i32⟩
  | 127 => ⟨S_, .f32⟩
  | _ => ⟨S2x3x200x200, .f32⟩

abbrev hbmTy0_2 (i : Nat) : BufTy := match i % 128 with
  | 0 => ⟨S_, .f32⟩
  | 1 => ⟨S2x1000, .f32⟩
  | 2 => ⟨S2x1000, .f32⟩
  | 3 => ⟨S2x300, .f32⟩
  | 4 => ⟨S2x300, .i32⟩
  | 5 => ⟨S2x1000x1, .f32⟩
  | 6 => ⟨S2x1000x1, .f32⟩
  | 7 => ⟨S2x1000x1, .f32⟩
  | 8 => ⟨S2x1000x1, .f32⟩
  | 9 => ⟨S2x1000x4, .f32⟩
  | 10 => ⟨S_, .i32⟩
  | 11 => ⟨S2x300, .i32⟩
  | 12 => ⟨S2x300, .i1⟩
  | 13 => ⟨S_, .i32⟩
  | 14 => ⟨S2x300, .i32⟩
  | 15 => ⟨S2x300, .i32⟩
  | 16 => ⟨S2x300, .i32⟩
  | 17 => ⟨S2x300x1, .i32⟩
  | 18 => ⟨S2x300x4, .f32⟩
  | 19 => ⟨S2x300x1, .f32⟩
  | 20 => ⟨S2x300x5, .f32⟩
  | _ => ⟨S2x3x200x200, .f32⟩

abbrev hbmTy (i : Nat) : BufTy := match i / 128 with
  | 0 => hbmTy0_0 i
  | 1 => hbmTy0_1 i
  | 2 => hbmTy0_2 i
  | _ => ⟨S2x3x200x200, .f32⟩

abbrev bufTy : (tb : Table) → Fin (tcTables nBuf tb) → BufTy
  | .hbm, ⟨i, _⟩ => hbmTy i
  | _, _ => ⟨S2x3x200x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_cst : Ref sig .tc := ⟨.hbm, 7, rfl⟩
abbrev main_call0_v4 : Ref sig .tc := ⟨.hbm, 8, rfl⟩
abbrev main_call0_v5 : Ref sig .tc := ⟨.hbm, 9, rfl⟩
abbrev main_call0_cst_0 : Ref sig .tc := ⟨.hbm, 10, rfl⟩
abbrev main_call0_v6 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_values : Ref sig .tc := ⟨.hbm, 16, rfl⟩
abbrev main_indices : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_v4 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_v5 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_cst : Ref sig .tc := ⟨.hbm, 41, rfl⟩
abbrev main_call3_v5 : Ref sig .tc := ⟨.hbm, 42, rfl⟩
abbrev main_call3_v6 : Ref sig .tc := ⟨.hbm, 43, rfl⟩
abbrev main_call3_v7 : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_v11 : Ref sig .tc := ⟨.hbm, 48, rfl⟩
abbrev main_call3_cst_0 : Ref sig .tc := ⟨.hbm, 49, rfl⟩
abbrev main_call3_v12 : Ref sig .tc := ⟨.hbm, 50, rfl⟩
abbrev main_call3_v13 : Ref sig .tc := ⟨.hbm, 51, rfl⟩
abbrev main_call3_v14 : Ref sig .tc := ⟨.hbm, 52, rfl⟩
abbrev main_call3_v15 : Ref sig .tc := ⟨.hbm, 53, rfl⟩
abbrev main_call3_cst_1 : Ref sig .tc := ⟨.hbm, 54, rfl⟩
abbrev main_call3_v16 : Ref sig .tc := ⟨.hbm, 55, rfl⟩
abbrev main_call3_v17 : Ref sig .tc := ⟨.hbm, 56, rfl⟩
abbrev main_call3_v18 : Ref sig .tc := ⟨.hbm, 57, rfl⟩
abbrev main_call3_v19 : Ref sig .tc := ⟨.hbm, 58, rfl⟩
abbrev main_call3_v20 : Ref sig .tc := ⟨.hbm, 59, rfl⟩
abbrev main_call3_cst_2 : Ref sig .tc := ⟨.hbm, 60, rfl⟩
abbrev main_call3_v21 : Ref sig .tc := ⟨.hbm, 61, rfl⟩
abbrev main_call3_v22 : Ref sig .tc := ⟨.hbm, 62, rfl⟩
abbrev main_call3_v23 : Ref sig .tc := ⟨.hbm, 63, rfl⟩
abbrev main_call3_v24 : Ref sig .tc := ⟨.hbm, 64, rfl⟩
abbrev main_call3_v25 : Ref sig .tc := ⟨.hbm, 65, rfl⟩
abbrev main_call3_cst_3 : Ref sig .tc := ⟨.hbm, 66, rfl⟩
abbrev main_call3_v26 : Ref sig .tc := ⟨.hbm, 67, rfl⟩
abbrev main_call3_v27 : Ref sig .tc := ⟨.hbm, 68, rfl⟩
abbrev main_call3_v28 : Ref sig .tc := ⟨.hbm, 69, rfl⟩
abbrev main_call3_v29 : Ref sig .tc := ⟨.hbm, 70, rfl⟩
abbrev main_call3_cst_4 : Ref sig .tc := ⟨.hbm, 71, rfl⟩
abbrev main_call3_v30 : Ref sig .tc := ⟨.hbm, 72, rfl⟩
abbrev main_call3_v31 : Ref sig .tc := ⟨.hbm, 73, rfl⟩
abbrev main_call3_v32 : Ref sig .tc := ⟨.hbm, 74, rfl⟩
abbrev main_call3_v33 : Ref sig .tc := ⟨.hbm, 75, rfl⟩
abbrev main_call3_cst_5 : Ref sig .tc := ⟨.hbm, 76, rfl⟩
abbrev main_call3_v34 : Ref sig .tc := ⟨.hbm, 77, rfl⟩
abbrev main_call3_v35 : Ref sig .tc := ⟨.hbm, 78, rfl⟩
abbrev main_call3_cst_6 : Ref sig .tc := ⟨.hbm, 79, rfl⟩
abbrev main_call3_v36 : Ref sig .tc := ⟨.hbm, 80, rfl⟩
abbrev main_call3_v37 : Ref sig .tc := ⟨.hbm, 81, rfl⟩
abbrev main_call3_v38 : Ref sig .tc := ⟨.hbm, 82, rfl⟩
abbrev main_call3_v39 : Ref sig .tc := ⟨.hbm, 83, rfl⟩
abbrev main_call3_cst_7 : Ref sig .tc := ⟨.hbm, 84, rfl⟩
abbrev main_call3_v40 : Ref sig .tc := ⟨.hbm, 85, rfl⟩
abbrev main_call3_v41 : Ref sig .tc := ⟨.hbm, 86, rfl⟩
abbrev main_call3_cst_8 : Ref sig .tc := ⟨.hbm, 87, rfl⟩
abbrev main_call3_v42 : Ref sig .tc := ⟨.hbm, 88, rfl⟩
abbrev main_call3_v43 : Ref sig .tc := ⟨.hbm, 89, rfl⟩
abbrev main_call3_v44 : Ref sig .tc := ⟨.hbm, 90, rfl⟩
abbrev main_call3_v45 : Ref sig .tc := ⟨.hbm, 91, rfl⟩
abbrev main_call3_v46 : Ref sig .tc := ⟨.hbm, 92, rfl⟩
abbrev main_call3_v47 : Ref sig .tc := ⟨.hbm, 93, rfl⟩
abbrev main_call3_v48 : Ref sig .tc := ⟨.hbm, 94, rfl⟩
abbrev main_call3_v49 : Ref sig .tc := ⟨.hbm, 95, rfl⟩
abbrev main_call3_v50 : Ref sig .tc := ⟨.hbm, 96, rfl⟩
abbrev main_call3_v51 : Ref sig .tc := ⟨.hbm, 97, rfl⟩
abbrev main_call3_cst_9 : Ref sig .tc := ⟨.hbm, 98, rfl⟩
abbrev main_call3_v52 : Ref sig .tc := ⟨.hbm, 99, rfl⟩
abbrev main_call3_v53 : Ref sig .tc := ⟨.hbm, 100, rfl⟩
abbrev main_v6_0 : Ref sig .tc := ⟨.hbm, 101, rfl⟩
abbrev main_call3_cst_10 : Ref sig .tc := ⟨.hbm, 102, rfl⟩
abbrev main_call3_v55 : Ref sig .tc := ⟨.hbm, 103, rfl⟩
abbrev main_call3_v56 : Ref sig .tc := ⟨.hbm, 104, rfl⟩
abbrev main_v6_1 : Ref sig .tc := ⟨.hbm, 105, rfl⟩
abbrev main_call3_cst_11 : Ref sig .tc := ⟨.hbm, 106, rfl⟩
abbrev main_call3_v58 : Ref sig .tc := ⟨.hbm, 107, rfl⟩
abbrev main_call3_v59 : Ref sig .tc := ⟨.hbm, 108, rfl⟩
abbrev main_call3_v60 : Ref sig .tc := ⟨.hbm, 109, rfl⟩
abbrev main_call3_cst_12 : Ref sig .tc := ⟨.hbm, 110, rfl⟩
abbrev main_call3_v61 : Ref sig .tc := ⟨.hbm, 111, rfl⟩
abbrev main_v6_2 : Ref sig .tc := ⟨.hbm, 112, rfl⟩
abbrev main_call3_cst_13 : Ref sig .tc := ⟨.hbm, 113, rfl⟩
abbrev main_call3_v63 : Ref sig .tc := ⟨.hbm, 114, rfl⟩
abbrev main_call3_v64 : Ref sig .tc := ⟨.hbm, 115, rfl⟩
abbrev main_call3_v65 : Ref sig .tc := ⟨.hbm, 116, rfl⟩
abbrev main_call3_cst_14 : Ref sig .tc := ⟨.hbm, 117, rfl⟩
abbrev main_call3_v66 : Ref sig .tc := ⟨.hbm, 118, rfl⟩
abbrev main_v6_3 : Ref sig .tc := ⟨.hbm, 119, rfl⟩
abbrev main_cst : Ref sig .tc := ⟨.hbm, 120, rfl⟩
abbrev main_v7 : Ref sig .tc := ⟨.hbm, 121, rfl⟩
abbrev main_v8 : Ref sig .tc := ⟨.hbm, 122, rfl⟩
abbrev main_cst_0 : Ref sig .tc := ⟨.hbm, 123, rfl⟩
abbrev main_v9 : Ref sig .tc := ⟨.hbm, 124, rfl⟩
abbrev main_v10 : Ref sig .tc := ⟨.hbm, 125, rfl⟩
abbrev main_cst_1 : Ref sig .tc := ⟨.hbm, 126, rfl⟩
abbrev main_v11 : Ref sig .tc := ⟨.hbm, 127, rfl⟩
abbrev main_v12 : Ref sig .tc := ⟨.hbm, 128, rfl⟩
abbrev main_cst_2 : Ref sig .tc := ⟨.hbm, 129, rfl⟩
abbrev main_v13 : Ref sig .tc := ⟨.hbm, 130, rfl⟩
abbrev main_v14 : Ref sig .tc := ⟨.hbm, 131, rfl⟩
abbrev main_cst_3 : Ref sig .tc := ⟨.hbm, 132, rfl⟩
abbrev main_v15 : Ref sig .tc := ⟨.hbm, 133, rfl⟩
abbrev main_v16 : Ref sig .tc := ⟨.hbm, 134, rfl⟩
abbrev main_cst_4 : Ref sig .tc := ⟨.hbm, 135, rfl⟩
abbrev main_v17 : Ref sig .tc := ⟨.hbm, 136, rfl⟩
abbrev main_v18 : Ref sig .tc := ⟨.hbm, 137, rfl⟩
abbrev main_cst_5 : Ref sig .tc := ⟨.hbm, 138, rfl⟩
abbrev main_v19 : Ref sig .tc := ⟨.hbm, 139, rfl⟩
abbrev main_v20 : Ref sig .tc := ⟨.hbm, 140, rfl⟩
abbrev main_cst_6 : Ref sig .tc := ⟨.hbm, 141, rfl⟩
abbrev main_v21 : Ref sig .tc := ⟨.hbm, 142, rfl⟩
abbrev main_v22 : Ref sig .tc := ⟨.hbm, 143, rfl⟩
abbrev main_v23 : Ref sig .tc := ⟨.hbm, 144, rfl⟩
abbrev main_cst_7 : Ref sig .tc := ⟨.hbm, 145, rfl⟩
abbrev main_v24 : Ref sig .tc := ⟨.hbm, 146, rfl⟩
abbrev main_v25 : Ref sig .tc := ⟨.hbm, 147, rfl⟩
abbrev main_cst_8 : Ref sig .tc := ⟨.hbm, 148, rfl⟩
abbrev main_v26 : Ref sig .tc := ⟨.hbm, 149, rfl⟩
abbrev main_v27 : Ref sig .tc := ⟨.hbm, 150, rfl⟩
abbrev main_v28 : Ref sig .tc := ⟨.hbm, 151, rfl⟩
abbrev main_cst_9 : Ref sig .tc := ⟨.hbm, 152, rfl⟩
abbrev main_v29 : Ref sig .tc := ⟨.hbm, 153, rfl⟩
abbrev main_v30 : Ref sig .tc := ⟨.hbm, 154, rfl⟩
abbrev main_cst_10 : Ref sig .tc := ⟨.hbm, 155, rfl⟩
abbrev main_v31 : Ref sig .tc := ⟨.hbm, 156, rfl⟩
abbrev main_v32 : Ref sig .tc := ⟨.hbm, 157, rfl⟩
abbrev main_v33 : Ref sig .tc := ⟨.hbm, 158, rfl⟩
abbrev main_call4_v0 : Ref sig .tc := ⟨.hbm, 159, rfl⟩
abbrev main_call4_cst : Ref sig .tc := ⟨.hbm, 160, rfl⟩
abbrev main_call4_v1 : Ref sig .tc := ⟨.hbm, 161, rfl⟩
abbrev main_call4_v2 : Ref sig .tc := ⟨.hbm, 162, rfl⟩
abbrev main_call4_v3 : Ref sig .tc := ⟨.hbm, 163, rfl⟩
abbrev main_call4_cst_0 : Ref sig .tc := ⟨.hbm, 164, rfl⟩
abbrev main_call4_v4 : Ref sig .tc := ⟨.hbm, 165, rfl⟩
abbrev main_call4_v5 : Ref sig .tc := ⟨.hbm, 166, rfl⟩
abbrev main_call4_v6 : Ref sig .tc := ⟨.hbm, 167, rfl⟩
abbrev main_call4_v7 : Ref sig .tc := ⟨.hbm, 168, rfl⟩
abbrev main_call4_v8 : Ref sig .tc := ⟨.hbm, 169, rfl⟩
abbrev main_call4_v9 : Ref sig .tc := ⟨.hbm, 170, rfl⟩
abbrev main_call4_v10 : Ref sig .tc := ⟨.hbm, 171, rfl⟩
abbrev main_call4_v11 : Ref sig .tc := ⟨.hbm, 172, rfl⟩
abbrev main_call4_v12 : Ref sig .tc := ⟨.hbm, 173, rfl⟩
abbrev main_call4_v13 : Ref sig .tc := ⟨.hbm, 174, rfl⟩
abbrev main_call4_v14 : Ref sig .tc := ⟨.hbm, 175, rfl⟩
abbrev main_call4_v15 : Ref sig .tc := ⟨.hbm, 176, rfl⟩
abbrev main_call4_v16 : Ref sig .tc := ⟨.hbm, 177, rfl⟩
abbrev main_call4_v17 : Ref sig .tc := ⟨.hbm, 178, rfl⟩
abbrev main_call4_v18 : Ref sig .tc := ⟨.hbm, 179, rfl⟩
abbrev main_call4_v19 : Ref sig .tc := ⟨.hbm, 180, rfl⟩
abbrev main_call4_v20 : Ref sig .tc := ⟨.hbm, 181, rfl⟩
abbrev main_call4_v21 : Ref sig .tc := ⟨.hbm, 182, rfl⟩
abbrev main_call4_v22 : Ref sig .tc := ⟨.hbm, 183, rfl⟩
abbrev main_call4_v23 : Ref sig .tc := ⟨.hbm, 184, rfl⟩
abbrev main_call4_v24 : Ref sig .tc := ⟨.hbm, 185, rfl⟩
abbrev main_call4_v25 : Ref sig .tc := ⟨.hbm, 186, rfl⟩
abbrev main_call4_v26 : Ref sig .tc := ⟨.hbm, 187, rfl⟩
abbrev main_call4_v27 : Ref sig .tc := ⟨.hbm, 188, rfl⟩
abbrev main_call4_cst_1 : Ref sig .tc := ⟨.hbm, 189, rfl⟩
abbrev main_call4_v28 : Ref sig .tc := ⟨.hbm, 190, rfl⟩
abbrev main_call4_v29 : Ref sig .tc := ⟨.hbm, 191, rfl⟩
abbrev main_call4_cst_2 : Ref sig .tc := ⟨.hbm, 192, rfl⟩
abbrev main_call4_v30 : Ref sig .tc := ⟨.hbm, 193, rfl⟩
abbrev main_call4_v31 : Ref sig .tc := ⟨.hbm, 194, rfl⟩
abbrev main_call4_v32 : Ref sig .tc := ⟨.hbm, 195, rfl⟩
abbrev main_call4_cst_3 : Ref sig .tc := ⟨.hbm, 196, rfl⟩
abbrev main_call4_v33 : Ref sig .tc := ⟨.hbm, 197, rfl⟩
abbrev main_call4_v34 : Ref sig .tc := ⟨.hbm, 198, rfl⟩
abbrev main_call4_cst_4 : Ref sig .tc := ⟨.hbm, 199, rfl⟩
abbrev main_call4_v35 : Ref sig .tc := ⟨.hbm, 200, rfl⟩
abbrev main_call4_v36 : Ref sig .tc := ⟨.hbm, 201, rfl⟩
abbrev main_call4_v37 : Ref sig .tc := ⟨.hbm, 202, rfl⟩
abbrev main_call4_v38 : Ref sig .tc := ⟨.hbm, 203, rfl⟩
abbrev main_call4_v39 : Ref sig .tc := ⟨.hbm, 204, rfl⟩
abbrev main_call4_v40 : Ref sig .tc := ⟨.hbm, 205, rfl⟩
abbrev main_call4_v41 : Ref sig .tc := ⟨.hbm, 206, rfl⟩
abbrev main_call4_v42 : Ref sig .tc := ⟨.hbm, 207, rfl⟩
abbrev main_call4_v43 : Ref sig .tc := ⟨.hbm, 208, rfl⟩
abbrev main_v34 : Ref sig .tc := ⟨.hbm, 209, rfl⟩
abbrev main_v35 : Ref sig .tc := ⟨.hbm, 210, rfl⟩
abbrev main_c : Ref sig .tc := ⟨.hbm, 211, rfl⟩
abbrev main_c_11 : Ref sig .tc := ⟨.hbm, 212, rfl⟩
abbrev main_v36_0 : Ref sig .tc := ⟨.hbm, 213, rfl⟩
abbrev main_v36_1 : Ref sig .tc := ⟨.hbm, 214, rfl⟩
abbrev main_v36_2 : Ref sig .tc := ⟨.hbm, 215, rfl⟩
abbrev main_v36_3 : Ref sig .tc := ⟨.hbm, 216, rfl⟩
abbrev main_v36_4 : Ref sig .tc := ⟨.hbm, 217, rfl⟩
abbrev main_while0c_c_19 : Ref sig .tc := ⟨.hbm, 218, rfl⟩
abbrev main_while0c_v46 : Ref sig .tc := ⟨.hbm, 219, rfl⟩
abbrev main_while0b_c_19 : Ref sig .tc := ⟨.hbm, 220, rfl⟩
abbrev main_while0b_v46 : Ref sig .tc := ⟨.hbm, 221, rfl⟩
abbrev main_while0b_c_20 : Ref sig .tc := ⟨.hbm, 222, rfl⟩
abbrev main_while0b_v47 : Ref sig .tc := ⟨.hbm, 223, rfl⟩
abbrev main_while0b_v48 : Ref sig .tc := ⟨.hbm, 224, rfl⟩
abbrev main_while0b_c_21 : Ref sig .tc := ⟨.hbm, 225, rfl⟩
abbrev main_while0b_v49 : Ref sig .tc := ⟨.hbm, 226, rfl⟩
abbrev main_while0b_v50 : Ref sig .tc := ⟨.hbm, 227, rfl⟩
abbrev main_while0b_c_22 : Ref sig .tc := ⟨.hbm, 228, rfl⟩
abbrev main_while0b_v51 : Ref sig .tc := ⟨.hbm, 229, rfl⟩
abbrev main_while0b_c_23 : Ref sig .tc := ⟨.hbm, 230, rfl⟩
abbrev main_while0b_v52 : Ref sig .tc := ⟨.hbm, 231, rfl⟩
abbrev main_while0b_v53 : Ref sig .tc := ⟨.hbm, 232, rfl⟩
abbrev main_while0b_c_24 : Ref sig .tc := ⟨.hbm, 233, rfl⟩
abbrev main_while0b_v54 : Ref sig .tc := ⟨.hbm, 234, rfl⟩
abbrev main_while0b_v55 : Ref sig .tc := ⟨.hbm, 235, rfl⟩
abbrev main_while0b_c_25 : Ref sig .tc := ⟨.hbm, 236, rfl⟩
abbrev main_while0b_c_26 : Ref sig .tc := ⟨.hbm, 237, rfl⟩
abbrev main_while0b_v56 : Ref sig .tc := ⟨.hbm, 238, rfl⟩
abbrev main_while0b_v57 : Ref sig .tc := ⟨.hbm, 239, rfl⟩
abbrev main_while0b_cst_27 : Ref sig .tc := ⟨.hbm, 240, rfl⟩
abbrev main_while0b_v58 : Ref sig .tc := ⟨.hbm, 241, rfl⟩
abbrev main_while0b_v59 : Ref sig .tc := ⟨.hbm, 242, rfl⟩
abbrev main_while0b_v60 : Ref sig .tc := ⟨.hbm, 243, rfl⟩
abbrev main_while0b_v61 : Ref sig .tc := ⟨.hbm, 244, rfl⟩
abbrev main_while0b_v62 : Ref sig .tc := ⟨.hbm, 245, rfl⟩
abbrev main_while0b_v63 : Ref sig .tc := ⟨.hbm, 246, rfl⟩
abbrev main_while0b_v64 : Ref sig .tc := ⟨.hbm, 247, rfl⟩
abbrev main_while0b_v65 : Ref sig .tc := ⟨.hbm, 248, rfl⟩
abbrev main_while0b_v66 : Ref sig .tc := ⟨.hbm, 249, rfl⟩
abbrev main_while0b_v67 : Ref sig .tc := ⟨.hbm, 250, rfl⟩
abbrev main_while0b_v68 : Ref sig .tc := ⟨.hbm, 251, rfl⟩
abbrev main_while0b_v69 : Ref sig .tc := ⟨.hbm, 252, rfl⟩
abbrev main_while0b_c_28 : Ref sig .tc := ⟨.hbm, 253, rfl⟩
abbrev main_while0b_v70 : Ref sig .tc := ⟨.hbm, 254, rfl⟩
abbrev main_cst_12 : Ref sig .tc := ⟨.hbm, 255, rfl⟩
abbrev main_call5_v0 : Ref sig .tc := ⟨.hbm, 256, rfl⟩
abbrev main_call5_v1 : Ref sig .tc := ⟨.hbm, 257, rfl⟩
abbrev main_v37 : Ref sig .tc := ⟨.hbm, 258, rfl⟩
abbrev main_values_13 : Ref sig .tc := ⟨.hbm, 259, rfl⟩
abbrev main_indices_14 : Ref sig .tc := ⟨.hbm, 260, rfl⟩
abbrev main_v38 : Ref sig .tc := ⟨.hbm, 261, rfl⟩
abbrev main_v39 : Ref sig .tc := ⟨.hbm, 262, rfl⟩
abbrev main_v40 : Ref sig .tc := ⟨.hbm, 263, rfl⟩
abbrev main_v41 : Ref sig .tc := ⟨.hbm, 264, rfl⟩
abbrev main_v42 : Ref sig .tc := ⟨.hbm, 265, rfl⟩
abbrev main_call6_c : Ref sig .tc := ⟨.hbm, 266, rfl⟩
abbrev main_call6_v0 : Ref sig .tc := ⟨.hbm, 267, rfl⟩
abbrev main_call6_v1 : Ref sig .tc := ⟨.hbm, 268, rfl⟩
abbrev main_call6_c_0 : Ref sig .tc := ⟨.hbm, 269, rfl⟩
abbrev main_call6_v2 : Ref sig .tc := ⟨.hbm, 270, rfl⟩
abbrev main_call6_v3 : Ref sig .tc := ⟨.hbm, 271, rfl⟩
abbrev main_call6_v4 : Ref sig .tc := ⟨.hbm, 272, rfl⟩
abbrev main_call6_v5 : Ref sig .tc := ⟨.hbm, 273, rfl⟩
abbrev main_v43 : Ref sig .tc := ⟨.hbm, 274, rfl⟩
abbrev main_v44 : Ref sig .tc := ⟨.hbm, 275, rfl⟩
abbrev main_v45 : Ref sig .tc := ⟨.hbm, 276, rfl⟩

abbrev nD : Nat := 1
abbrev τ : Topo := Topo.v7x

variable {F : FTy → Type} [FloatOps F]

abbrev main_while0_count : Scf.Loop 32 := ⟨0#32, 1000#32, 1#32⟩
-- ==== Proof.RefFrame.lean ====
/-
  The reference's buffers that nothing writes: the stretches before the loop, the loop's trips and the stretches
  after it leave them as they were. From it, the reference runs and keeps its arguments (`ref_frame`).
-/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof.Ref

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- Every reference that a stretch before the loop writes. -/
abbrev preW : List (Ref sig .tc) :=
  hostOps0_W ++ (hostOps0_1_W ++ (hostOps0_2_W ++ (hostOps0_3_W ++ (hostOps0_4_W ++ (hostOps0_5_W ++ (hostOps0_6_W ++ hostOps0_7_W))))))

abbrev hostOps0_8_W : List (Ref sig .tc) := [main_cst_12]
theorem hostOps0_8_writes : (hostOps0_8 : List (HloOp τ sig (Elt F))).Forall fun op => op.writes ⊆ (hostOps0_8_W.map (Proc.devRef (τ := τ) .tc)).toFinset :=
  StableHlo.forall_writes_sub_of_map rfl
abbrev hostOps0_9_W : List (Ref sig .tc) := [main_call5_v0, main_call5_v1, main_v37]
theorem hostOps0_9_writes : (hostOps0_9 : List (HloOp τ sig (Elt F))).Forall fun op => op.writes ⊆ (hostOps0_9_W.map (Proc.devRef (τ := τ) .tc)).toFinset :=
  StableHlo.forall_writes_sub_of_map rfl
abbrev hostOps0_10_W : List (Ref sig .tc) := [main_values_13, main_indices_14, main_v38, main_v39, main_v40, main_v41, main_v42]
theorem hostOps0_10_writes : (hostOps0_10 : List (HloOp τ sig (Elt F))).Forall fun op => op.writes ⊆ (hostOps0_10_W.map (Proc.devRef (τ := τ) .tc)).toFinset :=
  StableHlo.forall_writes_sub_of_map rfl
abbrev hostOps0_11_W : List (Ref sig .tc) := [main_call6_c, main_call6_v0, main_call6_v1, main_call6_c_0, main_call6_v2, main_call6_v3, main_call6_v4, main_call6_v5, main_v43]
theorem hostOps0_11_writes : (hostOps0_11 : List (HloOp τ sig (Elt F))).Forall fun op => op.writes ⊆ (hostOps0_11_W.map (Proc.devRef (τ := τ) .tc)).toFinset :=
  StableHlo.forall_writes_sub_of_map rfl
abbrev hostOps0_12_W : List (Ref sig .tc) := [main_v44, main_v45]
theorem hostOps0_12_writes : (hostOps0_12 : List (HloOp τ sig (Elt F))).Forall fun op => op.writes ⊆ (hostOps0_12_W.map (Proc.devRef (τ := τ) .tc)).toFinset :=
  StableHlo.forall_writes_sub_of_map rfl

/-- Every reference that a stretch after the loop writes. -/
abbrev postW : List (Ref sig .tc) :=
  hostOps0_8_W ++ (hostOps0_9_W ++ (hostOps0_10_W ++ (hostOps0_11_W ++ hostOps0_12_W)))

/-- A reference that no stretch before the loop writes enters the loop as it was at the launch. -/
theorem afterL_pre_keep (V : Valuation τ sig (Elt F)) (r : Ref sig .tc) (h : r ∉ preW) :
    afterL preI V (Proc.devRef .tc r) = V (Proc.devRef .tc r) := by
  simp only [preW, List.mem_append, not_or] at h
  obtain ⟨h0, h1, h2, h3, h4, h5, h6, h7⟩ := h
  simp only [preI, afterL_cons, afterL_nil]
  rw [after_of_writes_sub _ _ hostOps0_7_writes h7, after_of_writes_sub _ _ hostOps0_6_writes h6,
    after_of_writes_sub _ _ hostOps0_5_writes h5, after_of_writes_sub _ _ hostOps0_4_writes h4,
    after_of_writes_sub _ _ hostOps0_3_writes h3, after_of_writes_sub _ _ hostOps0_2_writes h2,
    after_of_writes_sub _ _ hostOps0_1_writes h1, after_of_writes_sub _ _ hostOps0_writes h0]

/-- A reference that neither the loop's condition nor its body writes is the same before every trip. -/
theorem atTrip_keep (m : (ℓ : Loc nD τ sig) → Buf (Elt F) ℓ) (c : Dev nD) (r : Ref sig .tc)
    (hc : r ∉ condOps_W) (hb : r ∉ while0Ops0_W) : ∀ k,
    atTrip condOps bodyI (entryContents preI m) k c (Proc.devRef .tc r) = entryContents preI m c (Proc.devRef .tc r)
  | 0 => rfl
  | k + 1 => by
    rw [atTrip_succ]
    simp only [bodyI, afterL_cons, afterL_nil]
    rw [after_of_writes_sub _ _ while0Ops0_writes hb, after_of_writes_sub _ _ condOps_writes hc]
    exact atTrip_keep m c r hc hb k

/-- A reference that no stretch after the loop writes ends as the loop left it. -/
theorem afterL_post_keep (V : Valuation τ sig (Elt F)) (r : Ref sig .tc) (h : r ∉ postW) :
    afterL postI V (Proc.devRef .tc r) = V (Proc.devRef .tc r) := by
  simp only [postW, List.mem_append, not_or] at h
  obtain ⟨h8, h9, h10, h11, h12⟩ := h
  simp only [postI, afterL_cons, afterL_nil]
  rw [after_of_writes_sub _ _ hostOps0_12_writes h12, after_of_writes_sub _ _ hostOps0_11_writes h11,
    after_of_writes_sub _ _ hostOps0_10_writes h10, after_of_writes_sub _ _ hostOps0_9_writes h9,
    after_of_writes_sub _ _ hostOps0_8_writes h8]

/-- A reference that nothing writes ends as it began. -/
theorem final_keep (m : (ℓ : Loc nD τ sig) → Buf (Elt F) ℓ) (c : Dev nD) (r : Ref sig .tc)
    (h0 : r ∉ preW) (hc : r ∉ condOps_W) (hb : r ∉ while0Ops0_W) (h1 : r ∉ postW) :
    finalContents condOps preI bodyI postI 1000 m c (Proc.devRef .tc r) = m ((c.tc : Thread nD τ).loc r) := by
  show afterL postI _ _ = _
  rw [afterL_post_keep _ r h1, after_of_writes_sub _ _ condOps_writes hc, atTrip_keep m c r hc hb]
  exact afterL_pre_keep _ r h0

/-- The reference runs, keeps its arguments, and leaves its result at the fold of its operations. -/
theorem ref_run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v45) = finalContents condOps preI bodyI postI 1000 m c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨h c main_v45 rfl,
    (h c main_arg0 rfl).trans (final_keep m c main_arg0 (by decide) (by decide) (by decide) (by decide)),
    (h c main_arg1 rfl).trans (final_keep m c main_arg1 (by decide) (by decide) (by decide) (by decide)),
    (h c main_arg2 rfl).trans (final_keep m c main_arg2 (by decide) (by decide) (by decide) (by decide))⟩)
    (run_fold m ρ)

/-- The reference's frame: it runs, keeps its arguments, and every semaphore counter ends at zero. -/
theorem ref_frame : Cert.quiescent_ReferenceIdeal (hReferenceIdeal := Cert.ReferenceIdeal.Gen.facts) :=
  fun m ρ _ => (θ_run _ _ _).mono (fun r h => ⟨fun c => (h c).2, Idealize.ShloMosaic.sem_eq_zero_of_no_sems (by decide) r.2⟩)
    (ref_run m ρ)

end Cert.Proof.Ref

end
-- ==== Proof.KBlocks.lean ====
/-
  The kernel's greedy sweep over one 128-wide block of boxes, said once. The printed program writes the sweep out
  box by box, eight times over; here each printed block is shown to be an instance of the one recursion `sweep`
  followed by one update of the boxes of later blocks (`upd`).
-/
module

public import proofs.«01_k».proof.Defs
public import proofs.«01_k».proof.Proof.Gen.KernelIdeal
public import proofs.«01_k».proof.Proof.Gen.KernelIdeal.Frame

@[expose] public section

set_option maxRecDepth 16384

noncomputable section

namespace Cert.Proof.K

open Cert.KernelIdeal Cert.KernelIdeal.Gen
open Idealize.ShloMosaic Idealize.ShloMosaic.TcCoe
open Idealize.SL.Sem

variable {F : FTy → Type} [FloatOps F]

/-- Row `n` of a 128-by-128 tile fits in the tile. -/
theorem slices_row {n : ℕ} (h : n < 128) : S128x128.Slices ![n, 0] S1x128 :=
  ⟨rfl, fun a => match a with
    | ⟨0, _⟩ => (by show n + 1 ≤ 128; omega)
    | ⟨1, _⟩ => (by show 0 + 128 ≤ 128; omega)⟩

/-- Entry `n` of a row of 128 fits in the row. -/
theorem slices_entry {n : ℕ} (h : n < 128) : S1x128.Slices ![0, n] S1x1 :=
  ⟨rfl, fun a => match a with
    | ⟨0, _⟩ => (by show 0 + 1 ≤ 1; omega)
    | ⟨1, _⟩ => (by show n + 1 ≤ 128; omega)⟩

/-- One step of the sweep: box `n` of the block, if it is still kept, clears every later box it overlaps. -/
def step (sub : FVec F S128x128 .f32) (n : ℕ) (h : n < 128) (k : FVec F S1x128 .f32) : FVec F S1x128 .f32 :=
  mulf k (subf (broadcast S1x128 (Scalar.ofBits .f32 0x3F800000#32))
    (mulf (mulf (broadcastTo S1x128 (extractStridedSlice S1x1 ![0, n] k (slices_entry h)) broadcasts_S1x1_S1x128)
        (extractStridedSlice S1x128 ![n, 0] sub (slices_row h)))
      (sitofp .f32 (extui 32 (cmpi .sgt (iota .tc S1x128 32 [1] iota_S1x128_d1_w32) (broadcast S1x128 (BitVec.ofNat 32 n)))
        natLt_1_32))))

/-- The first `n` steps of the sweep. -/
def sweep (sub : FVec F S128x128 .f32) (k : FVec F S1x128 .f32) : (n : ℕ) → n ≤ 128 → FVec F S1x128 .f32
  | 0, _ => k
  | n + 1, h => step sub n h (sweep sub k n (Nat.le_of_lt h))

/-- The update of every box from `b` on: a box is cleared when a kept box of the block overlaps it. -/
def upd (b : BitVec 32) (keep : FVec F S1x1024 .f32) (rows : FVec F S128x1024 .f32) (ks : FVec F S1x128 .f32) :
    FVec F S1x1024 .f32 :=
  mulf keep (subf (broadcast S1x1024 (Scalar.ofBits .f32 0x3F800000#32))
    (mulf (shapeCast S1x1024 (multiReduction .maximumf [0] S1024
        (mulf rows (broadcastTo S128x1024 (shapeCast S128x1 ks shapeCasts_S1x128_S128x1) broadcasts_S128x1_S128x1024))
        0xFF800000#32 reduces_S128x1024_S1024 (.inl rfl) rfl) shapeCasts_S1024_S1x1024)
      (sitofp .f32 (extui 32 (cmpi .sge (iota .tc S1x1024 32 [1] iota_S1x1024_d1_w32) (broadcast S1x1024 b)) natLt_1_32))))

/-- 128 entries from `o` on fit in a row of 1024. -/
theorem slices_cols {o n : ℕ} (h : o + n ≤ 1024) : S1x1024.Slices ![0, o] (⟨2, ![1, n]⟩ : Shape) :=
  ⟨rfl, fun a => match a with
    | ⟨0, _⟩ => (by show 0 + 1 ≤ 1; omega)
    | ⟨1, _⟩ => (by show o + n ≤ 1024; omega)⟩

/-- Three rows, side by side, of `a`, 128 and `d` entries make a row of 1024. -/
theorem concatenates_mid {a d : ℕ} (h : a + 128 + d = 1024) :
    Shape.Concatenates [(⟨2, ![1, a]⟩ : Shape), S1x128, (⟨2, ![1, d]⟩ : Shape)] S1x1024 1 :=
  ⟨(by decide : 2 ≤ 3), fun s hs => by
    simp only [List.mem_cons, List.not_mem_nil, or_false] at hs
    rcases hs with rfl | rfl | rfl <;>
      exact ⟨rfl, fun b hb => match b, hb with
        | ⟨0, _⟩, _ => rfl
        | ⟨1, _⟩, hb => absurd rfl hb⟩, by
    show a + (128 + (d + 0)) = 1024; omega⟩

/-- A row of 1024 with the 128 entries from `a` on taken from `S` and the rest from `U`. -/
def glueMid (a d : ℕ) (h : a + 128 + d = 1024) (U : FVec F S1x1024 .f32) (S : FVec F S1x128 .f32) : FVec F S1x1024 .f32 :=
  concatenate S1x1024 1
    [⟨(⟨2, ![1, a]⟩ : Shape), extractStridedSlice (⟨2, ![1, a]⟩ : Shape) ![0, 0] U (slices_cols (by omega))⟩, ⟨S1x128, S⟩,
     ⟨(⟨2, ![1, d]⟩ : Shape), extractStridedSlice (⟨2, ![1, d]⟩ : Shape) ![0, a + 128] U (slices_cols (by omega))⟩]
    (concatenates_mid h)

/-- The first 128 entries from `S`, the others from `U`. -/
def glueFirst (U : FVec F S1x1024 .f32) (S : FVec F S1x128 .f32) : FVec F S1x1024 .f32 :=
  concatenate S1x1024 1 [⟨S1x128, S⟩, ⟨S1x896, extractStridedSlice S1x896 ![0, 128] U slices_S1x1024_o0_128_S1x896⟩]
    concatenates_S1x128_S1x896_S1x1024_d1

/-- The last 128 entries from `S`, the others from `U`. -/
def glueLast (U : FVec F S1x1024 .f32) (S : FVec F S1x128 .f32) : FVec F S1x1024 .f32 :=
  concatenate S1x1024 1 [⟨S1x896, extractStridedSlice S1x896 ![0, 0] U slices_S1x1024_o0_0_S1x896⟩, ⟨S1x128, S⟩]
    concatenates_S1x896_S1x128_S1x1024_d1

/-- The swept block `b`: the 128 boxes from `128 b` on. -/
def swept (b : ℕ) (h : 128 * b + 128 ≤ 1024) (keep : FVec F S1x1024 .f32) (sub : FVec F S128x128 .f32) : FVec F S1x128 .f32 :=
  sweep sub (extractStridedSlice S1x128 ![0, 128 * b] keep (slices_cols h)) 127 (by decide)

/-- Every box after block `b` updated by the swept block. -/
def updated (b : ℕ) (h : 128 * b + 128 ≤ 1024) (keep : FVec F S1x1024 .f32) (sub : FVec F S128x128 .f32)
    (rows : FVec F S128x1024 .f32) : FVec F S1x1024 .f32 :=
  upd (BitVec.ofNat 32 (128 * b + 128)) keep rows (swept b h keep sub)

/-- What the sweep of one inner block leaves. -/
def midBlock (b : ℕ) (h : 128 * b + 128 ≤ 1024) (keep : FVec F S1x1024 .f32) (sub : FVec F S128x128 .f32)
    (rows : FVec F S128x1024 .f32) : FVec F S1x1024 .f32 :=
  glueMid (128 * b) (1024 - (128 * b + 128)) (by omega) (updated b h keep sub rows) (swept b h keep sub)

/-- The four corners of every box, its start value in the sweep and its area, from the gathered rows `G`. -/
def cX1 (G : FVec F S8x1024 .f32) : FVec F S1x1024 .f32 := k0_pay14 (k0_pay9 G) (k0_pay13 G)
def cY1 (G : FVec F S8x1024 .f32) : FVec F S1x1024 .f32 := k0_pay15 (k0_pay10 G) (k0_pay12 G)
def cX2 (G : FVec F S8x1024 .f32) : FVec F S1x1024 .f32 := k0_pay16 (k0_pay9 G) (k0_pay11 G)
def cY2 (G : FVec F S8x1024 .f32) : FVec F S1x1024 .f32 := k0_pay17 (k0_pay10 G) (k0_pay12 G)
def cArea (G : FVec F S8x1024 .f32) : FVec F S1x1024 .f32 := k0_pay20 (cX1 G) (cY1 G) (cX2 G) (cY2 G)
def keepInit (G : FVec F S8x1024 .f32) : FVec F S1x1024 .f32 :=
  k0_pay35 (k0_pay19 (iota .tc S1x1024 32 [1] iota_S1x1024_d1_w32)
    (k0_pay18 (k0_pay9 G) (k0_pay10 G) (k0_pay11 G) (k0_pay12 G) (k0_pay13 G)) 1000#32)

/-- The 128 entries of `v` from `o` on, as a column repeated over 1024 lanes. -/
def colOf (o : ℕ) (h : o + 128 ≤ 1024) (v : FVec F S1x1024 .f32) : FVec F S128x1024 .f32 :=
  broadcastTo S128x1024 (shapeCast S128x1 (shapeCast S128 (extractStridedSlice S1x128 ![0, o] v (slices_cols h))
    shapeCasts_S1x128_S128) shapeCasts_S128_S128x1) broadcasts_S128x1_S128x1024

/-- The row `v` repeated 128 times. -/
def rowOf (v : FVec F S1x1024 .f32) : FVec F S128x1024 .f32 := broadcastTo S128x1024 v broadcasts_S1x1024_S128x1024

/-- One extent of the overlap of two boxes. -/
def extent (lo hi : FVec F S1x1024 .f32) (o : ℕ) (h : o + 128 ≤ 1024) : FVec F S128x1024 .f32 :=
  maximumf (addf (subf (minimumf (colOf o h hi) (rowOf hi)) (maximumf (colOf o h lo) (rowOf lo)))
    (broadcast S128x1024 (Scalar.ofBits .f32 0x3F800000#32))) (broadcast S128x1024 (Scalar.ofBits .f32 0x00000000#32))

/-- Which boxes the 128 boxes from `o` on overlap by more than the threshold (1 or 0). -/
def iouRows (G : FVec F S8x1024 .f32) (o : ℕ) (h : o + 128 ≤ 1024) : FVec F S128x1024 .f32 :=
  shapeCast S128x1024 (sitofp .f32 (extui 32 (cmpf .ogt
    (divf (mulf (extent (cX1 G) (cX2 G) o h) (extent (cY1 G) (cY2 G) o h))
      (subf (addf (colOf o h (cArea G)) (rowOf (cArea G)))
        (mulf (extent (cX1 G) (cX2 G) o h) (extent (cY1 G) (cY2 G) o h))))
    (broadcast S128x1024 (Scalar.ofBits .f32 0x3F333333#32))) natLt_1_32)) shapeCasts_S128x1024_S128x1024

/-- The overlap matrix as the eight stores leave it, the last store first. -/
def ioePieces (G : FVec F S8x1024 .f32) : List (View.Piece (Elt F) S1024x1024 .f32) :=
  [⟨Rect.unit ![896, 0] S128x1024.size inb_S1024x1024_S128x1024_896_0, iouRows G 896 (by decide)⟩,
   ⟨Rect.unit ![768, 0] S128x1024.size inb_S1024x1024_S128x1024_768_0, iouRows G 768 (by decide)⟩,
   ⟨Rect.unit ![640, 0] S128x1024.size inb_S1024x1024_S128x1024_640_0, iouRows G 640 (by decide)⟩,
   ⟨Rect.unit ![512, 0] S128x1024.size inb_S1024x1024_S128x1024_512_0, iouRows G 512 (by decide)⟩,
   ⟨Rect.unit ![384, 0] S128x1024.size inb_S1024x1024_S128x1024_384_0, iouRows G 384 (by decide)⟩,
   ⟨Rect.unit ![256, 0] S128x1024.size inb_S1024x1024_S128x1024_256_0, iouRows G 256 (by decide)⟩,
   ⟨Rect.unit ![128, 0] S128x1024.size inb_S1024x1024_S128x1024_128_0, iouRows G 128 (by decide)⟩,
   ⟨Rect.unit ![0, 0] S128x1024.size inb_S1024x1024_S128x1024_0_0, iouRows G 0 (by decide)⟩]

/-- The number of kept boxes up to and including each box. -/
def counts (keep : FVec F S1x1024 .f32) : FVec F S1x1024 .f32 :=
  matmul dot_S1x1024_S1024x1024_S1x1024_1_0_0_1_n_n none keep
    (sitofp .f32 (extui 32 (cmpi .sle (iota .tc S1024x1024 32 [0] iota_S1024x1024_d0_w32)
      (iota .tc S1024x1024 32 [1] iota_S1024x1024_d1_w32)) natLt_1_32)) (constant S1x1024 .f32 0x00000000#32)

/-- The row 1 repeated. -/
abbrev ones : FVec F S1x1024 .f32 := broadcast S1x1024 (Scalar.ofBits .f32 0x3F800000#32)

/-- The slot of each box in the order of the results. -/
def slots (keep : FVec F S1x1024 .f32) : FVec F S1x1024 .f32 :=
  addf (mulf keep (subf (counts keep) ones))
    (mulf (subf ones keep) (subf (addf (broadcast S1x1024 (extractAt ![0, 0] (extractStridedSlice S1x1 ![0, 1023] (counts keep)
        slices_S1x1024_o0_1023_S1x1) inpos_S1x1_p0_0))
      (subf (addf (sitofp .f32 (iota .tc S1x1024 32 [1] iota_S1x1024_d1_w32)) ones) (counts keep))) ones))

/-- The four corners, the masked score and three rows of zeros. -/
def payload (G : FVec F S8x1024 .f32) (sc keep : FVec F S1x1024 .f32) : FVec F S8x1024 .f32 :=
  concatenate S8x1024 0 [⟨S1x1024, cX1 G⟩, ⟨S1x1024, cY1 G⟩, ⟨S1x1024, cX2 G⟩, ⟨S1x1024, cY2 G⟩,
    ⟨S1x1024, addf (mulf keep sc) (mulf (subf ones keep) (broadcast S1x1024 (Scalar.ofBits .f32 0xD01502F9#32)))⟩,
    ⟨S3x1024, broadcast S3x1024 (Scalar.ofBits .f32 0x00000000#32)⟩]
    concatenates_S1x1024_S1x1024_S1x1024_S1x1024_S1x1024_S3x1024_S8x1024_d0

/-- Column `r` of the result is the payload of the box whose slot is `r`. -/
def emit (G : FVec F S8x1024 .f32) (sc keep : FVec F S1x1024 .f32) : FVec F S1x8x304 .f32 :=
  shapeCast S1x8x304 (matmul dot_S8x1024_S1024x304_S8x304_1_0_0_1_n_n none (payload G sc keep)
    (sitofp .f32 (extui 32 (cmpf .oeq
      (broadcastTo S1024x304 (shapeCast S1024x1 (slots keep) shapeCasts_S1x1024_S1024x1) broadcasts_S1024x1_S1024x304)
      (sitofp .f32 (iota .tc S1024x304 32 [1] iota_S1024x304_d1_w32))) natLt_1_32)) (constant S8x304 .f32 0x00000000#32))
    shapeCasts_S8x304_S1x8x304

section Blocks

variable (c : Dev nD) (i : grid0.Coords)
  (arg1 : Memref sig .tc .vmem S1x1x1024 .f32) (harg1 : arg1.IsWhole)
  (arg2 : Memref sig .tc .vmem S1x1x1024 .i32) (harg2 : arg2.IsWhole)
  (arg3 : Memref sig .tc .vmem S1x59x8x2048 .f32) (harg3 : arg3.IsWhole)
  (arg4 : Memref sig .tc .vmem S1x8x304 .f32) (harg4 : arg4.IsWhole)
  (arg5 : Memref sig .tc .vmem S1024x1024 .f32) (harg5 : arg5.IsWhole)

/-- The gathered rows: the carried value of the loop over the 59 chunks. -/
def gathered (x1 : Vec F S1x1x1024 .i32) (x2 : Vec F S1x59x8x2048 .f32) : FVec F S8x1024 .f32 :=
  st_k0_t1 Variants.none c none i arg1 harg1 arg2 harg2 arg3 harg3 arg4 harg4 arg5 harg5
    (View.readAt (Elt F) arg2.view (Rect.unit ![0, 0, 0] S1x1x1024.size inb_S1x1x1024_S1x1x1024_0_0_0).toLoadRect (harg2.unread x1))
    (harg3.unread x2) k0_pay3 (Scf.trips k0_t1_loop.lb k0_t1_loop.ub k0_t1_loop.st)

/-- The score row. -/
def scoreRow (x0 : Vec F S1x1x1024 .f32) : FVec F S1x1024 .f32 :=
  k0_pay2 (View.readAt (Elt F) arg1.view (Rect.unit ![0, 0, 0] S1x1x1024.size inb_S1x1x1024_S1x1x1024_0_0_0).toLoadRect (harg1.unread x0))

/-- Diagonal tile `b` of the overlap matrix. -/
def subT (G : FVec F S8x1024 .f32) (b : ℕ) (h : ∀ a, (![128 * b, 128 * b] : Fin 2 → ℕ) a + S128x128.size a ≤ S1024x1024.size a) :
    FVec F S128x128 .f32 :=
  arg5.view.readCov (ioePieces G) (Rect.unit (s := S1024x1024) ![128 * b, 128 * b] S128x128.size h).toLoadRect

/-- Rows of block `b` of the overlap matrix. -/
def rowsT (G : FVec F S8x1024 .f32) (b : ℕ) (h : ∀ a, (![128 * b, 0] : Fin 2 → ℕ) a + S128x1024.size a ≤ S1024x1024.size a) :
    FVec F S128x1024 .f32 :=
  arg5.view.readCov (ioePieces G) (Rect.unit (s := S1024x1024) ![128 * b, 0] S128x1024.size h).toLoadRect

/-- The sweep over the blocks: block 0, then six inner blocks, then the last. -/
def keep0 (G : FVec F S8x1024 .f32) : FVec F S1x1024 .f32 :=
  glueFirst (updated 0 (by decide) (keepInit G) (subT arg5 G 0 inb_S1024x1024_S128x128_0_0) (rowsT arg5 G 0 inb_S1024x1024_S128x1024_0_0))
    (swept 0 (by decide) (keepInit G) (subT arg5 G 0 inb_S1024x1024_S128x128_0_0))
def keep1 (G : FVec F S8x1024 .f32) : FVec F S1x1024 .f32 :=
  midBlock 1 (by decide) (keep0 arg5 G) (subT arg5 G 1 inb_S1024x1024_S128x128_128_128) (rowsT arg5 G 1 inb_S1024x1024_S128x1024_128_0)
def keep2 (G : FVec F S8x1024 .f32) : FVec F S1x1024 .f32 :=
  midBlock 2 (by decide) (keep1 arg5 G) (subT arg5 G 2 inb_S1024x1024_S128x128_256_256) (rowsT arg5 G 2 inb_S1024x1024_S128x1024_256_0)
def keep3 (G : FVec F S8x1024 .f32) : FVec F S1x1024 .f32 :=
  midBlock 3 (by decide) (keep2 arg5 G) (subT arg5 G 3 inb_S1024x1024_S128x128_384_384) (rowsT arg5 G 3 inb_S1024x1024_S128x1024_384_0)
def keep4 (G : FVec F S8x1024 .f32) : FVec F S1x1024 .f32 :=
  midBlock 4 (by decide) (keep3 arg5 G) (subT arg5 G 4 inb_S1024x1024_S128x128_512_512) (rowsT arg5 G 4 inb_S1024x1024_S128x1024_512_0)
def keep5 (G : FVec F S8x1024 .f32) : FVec F S1x1024 .f32 :=
  midBlock 5 (by decide) (keep4 arg5 G) (subT arg5 G 5 inb_S1024x1024_S128x128_640_640) (rowsT arg5 G 5 inb_S1024x1024_S128x1024_640_0)
def keep6 (G : FVec F S8x1024 .f32) : FVec F S1x1024 .f32 :=
  midBlock 6 (by decide) (keep5 arg5 G) (subT arg5 G 6 inb_S1024x1024_S128x128_768_768) (rowsT arg5 G 6 inb_S1024x1024_S128x1024_768_0)
def keep7 (G : FVec F S8x1024 .f32) : FVec F S1x1024 .f32 :=
  glueLast (updated 7 (by decide) (keep6 arg5 G) (subT arg5 G 7 inb_S1024x1024_S128x128_896_896) (rowsT arg5 G 7 inb_S1024x1024_S128x1024_896_0))
    (swept 7 (by decide) (keep6 arg5 G) (subT arg5 G 7 inb_S1024x1024_S128x128_896_896))

variable (x1 : Vec F S1x1x1024 .i32) (x2 : Vec F S1x59x8x2048 .f32)

theorem block0 :
    kernelRun0_A.sl.r_93 (F := F) c i arg1 harg1 arg2 harg2 arg3 harg3 arg4 harg4 arg5 harg5 x1 x2
    = glueFirst
      (updated 0 (by decide) (keepInit (gathered c i arg1 harg1 arg2 harg2 arg3 harg3 arg4 harg4 arg5 harg5 x1 x2))
        (subT arg5 (gathered c i arg1 harg1 arg2 harg2 arg3 harg3 arg4 harg4 arg5 harg5 x1 x2) 0 inb_S1024x1024_S128x128_0_0)
        (rowsT arg5 (gathered c i arg1 harg1 arg2 harg2 arg3 harg3 arg4 harg4 arg5 harg5 x1 x2) 0 inb_S1024x1024_S128x1024_0_0))
      (swept 0 (by decide) (keepInit (gathered c i arg1 harg1 arg2 harg2 arg3 harg3 arg4 harg4 arg5 harg5 x1 x2))
        (subT arg5 (gathered c i arg1 harg1 arg2 harg2 arg3 harg3 arg4 harg4 arg5 harg5 x1 x2) 0 inb_S1024x1024_S128x128_0_0)) := by
  sl_kernel_rfl

theorem block1 :
    kernelRun0_A.sl.r_166 (F := F) c i arg1 harg1 arg2 harg2 arg3 harg3 arg4 harg4 arg5 harg5 x1 x2
    = midBlock 1 (by decide)
      (kernelRun0_A.sl.r_93 (F := F) c i arg1 harg1 arg2 harg2 arg3 harg3 arg4 harg4 arg5 harg5 x1 x2)
      (subT arg5 (gathered c i arg1 harg1 arg2 harg2 arg3 harg3 arg4 harg4 arg5 harg5 x1 x2) 1 inb_S1024x1024_S128x128_128_128)
      (rowsT arg5 (gathered c i arg1 harg1 arg2 harg2 arg3 harg3 arg4 harg4 arg5 harg5 x1 x2) 1 inb_S1024x1024_S128x1024_128_0) := by
  sl_kernel_rfl

theorem block2 :
    kernelRun0_A.sl.r_240 (F := F) c i arg1 harg1 arg2 harg2 arg3 harg3 arg4 harg4 arg5 harg5 x1 x2
    = midBlock 2 (by decide)
      (kernelRun0_A.sl.r_166 (F := F) c i arg1 harg1 arg2 harg2 arg3 harg3 arg4 harg4 arg5 harg5 x1 x2)
      (subT arg5 (gathered c i arg1 harg1 arg2 harg2 arg3 harg3 arg4 harg4 arg5 harg5 x1 x2) 2 inb_S1024x1024_S128x128_256_256)
      (rowsT arg5 (gathered c i arg1 harg1 arg2 harg2 arg3 harg3 arg4 harg4 arg5 harg5 x1 x2) 2 inb_S1024x1024_S128x1024_256_0) := by
  sl_kernel_rfl

theorem block3 :
    kernelRun0_A.sl.r_313 (F := F) c i arg1 harg1 arg2 harg2 arg3 harg3 arg4 harg4 arg5 harg5 x1 x2
    = midBlock 3 (by decide)
      (kernelRun0_A.sl.r_240 (F := F) c i arg1 harg1 arg2 harg2 arg3 harg3 arg4 harg4 arg5 harg5 x1 x2)
      (subT arg5 (gathered c i arg1 harg1 arg2 harg2 arg3 harg3 arg4 harg4 arg5 harg5 x1 x2) 3 inb_S1024x1024_S128x128_384_384)
      (rowsT arg5 (gathered c i arg1 harg1 arg2 harg2 arg3 harg3 arg4 harg4 arg5 harg5 x1 x2) 3 inb_S1024x1024_S128x1024_384_0) := by
  sl_kernel_rfl

theorem block4 :
    kernelRun0_A.sl.r_385 (F := F) c i arg1 harg1 arg2 harg2 arg3 harg3 arg4 harg4 arg5 harg5 x1 x2
    = midBlock 4 (by decide)
      (kernelRun0_A.sl.r_313 (F := F) c i arg1 harg1 arg2 harg2 arg3 harg3 arg4 harg4 arg5 harg5 x1 x2)
      (subT arg5 (gathered c i arg1 harg1 arg2 harg2 arg3 harg3 arg4 harg4 arg5 harg5 x1 x2) 4 inb_S1024x1024_S128x128_512_512)
      (rowsT arg5 (gathered c i arg1 harg1 arg2 harg2 arg3 harg3 arg4 harg4 arg5 harg5 x1 x2) 4 inb_S1024x1024_S128x1024_512_0) := by
  sl_kernel_rfl

theorem block5 :
    kernelRun0_A.sl.r_459 (F := F) c i arg1 harg1 arg2 harg2 arg3 harg3 arg4 harg4 arg5 harg5 x1 x2
    = midBlock 5 (by decide)
      (kernelRun0_A.sl.r_385 (F := F) c i arg1 harg1 arg2 harg2 arg3 harg3 arg4 harg4 arg5 harg5 x1 x2)
      (subT arg5 (gathered c i arg1 harg1 arg2 harg2 arg3 harg3 arg4 harg4 arg5 harg5 x1 x2) 5 inb_S1024x1024_S128x128_640_640)
      (rowsT arg5 (gathered c i arg1 harg1 arg2 harg2 arg3 harg3 arg4 harg4 arg5 harg5 x1 x2) 5 inb_S1024x1024_S128x1024_640_0) := by
  sl_kernel_rfl

theorem block6 :
    kernelRun0_A.sl.r_532 (F := F) c i arg1 harg1 arg2 harg2 arg3 harg3 arg4 harg4 arg5 harg5 x1 x2
    = midBlock 6 (by decide)
      (kernelRun0_A.sl.r_459 (F := F) c i arg1 harg1 arg2 harg2 arg3 harg3 arg4 harg4 arg5 harg5 x1 x2)
      (subT arg5 (gathered c i arg1 harg1 arg2 harg2 arg3 harg3 arg4 harg4 arg5 harg5 x1 x2) 6 inb_S1024x1024_S128x128_768_768)
      (rowsT arg5 (gathered c i arg1 harg1 arg2 harg2 arg3 harg3 arg4 harg4 arg5 harg5 x1 x2) 6 inb_S1024x1024_S128x1024_768_0) := by
  sl_kernel_rfl

theorem block7 :
    kernelRun0_A.sl.r_605 (F := F) c i arg1 harg1 arg2 harg2 arg3 harg3 arg4 harg4 arg5 harg5 x1 x2
    = glueLast
      (updated 7 (by decide) (kernelRun0_A.sl.r_532 (F := F) c i arg1 harg1 arg2 harg2 arg3 harg3 arg4 harg4 arg5 harg5 x1 x2)
        (subT arg5 (gathered c i arg1 harg1 arg2 harg2 arg3 harg3 arg4 harg4 arg5 harg5 x1 x2) 7 inb_S1024x1024_S128x128_896_896)
        (rowsT arg5 (gathered c i arg1 harg1 arg2 harg2 arg3 harg3 arg4 harg4 arg5 harg5 x1 x2) 7 inb_S1024x1024_S128x1024_896_0))
      (swept 7 (by decide) (kernelRun0_A.sl.r_532 (F := F) c i arg1 harg1 arg2 harg2 arg3 harg3 arg4 harg4 arg5 harg5 x1 x2)
        (subT arg5 (gathered c i arg1 harg1 arg2 harg2 arg3 harg3 arg4 harg4 arg5 harg5 x1 x2) 7 inb_S1024x1024_S128x128_896_896)) := by
  sl_kernel_rfl

/-- The printed sweep is the sweep said once. -/
theorem printed_kept : kernelRun0_A.sl.r_605 (F := F) c i arg1 harg1 arg2 harg2 arg3 harg3 arg4 harg4 arg5 harg5 x1 x2 = keep7 arg5 (gathered c i arg1 harg1 arg2 harg2 arg3 harg3 arg4 harg4 arg5 harg5 x1 x2) := by
  rw [block7, block6, block5, block4, block3, block2, block1, block0]; rfl

/-- What the body stores: one piece, the emitted columns. -/
theorem stored (x0 : Vec F S1x1x1024 .f32) : (kernelRun0_A (F := F) c i arg1 harg1 arg2 harg2 arg3 harg3 arg4 harg4 arg5 harg5 x0 x1 x2).1
    = [⟨Rect.unit ![0, 0, 0] ![1, 8, 304] inb_S1x8x304_S1x8x304_0_0_0,
        emit (gathered c i arg1 harg1 arg2 harg2 arg3 harg3 arg4 harg4 arg5 harg5 x1 x2) (scoreRow arg1 harg1 x0) (kernelRun0_A.sl.r_605 (F := F) c i arg1 harg1 arg2 harg2 arg3 harg3 arg4 harg4 arg5 harg5 x1 x2)⟩] := by
  sl_kernel_rfl

end Blocks

end Cert.Proof.K
-- ==== Proof.Nms.lean ====
/-
  The mathematics of greedy suppression and of the order of the results, with no program in sight.

  `P valid over n j` says that box `j` is still kept after the first `n` boxes have had their turn. `kept` is its
  limit. `slot` numbers the boxes in the order of the results: the kept ones first, then the others, each in index
  order; a stable sort of the masked scores lists the boxes by slot (`slot_sortedFrom`).
-/
module

public import Mathlib.Data.List.FinRange
public import Mathlib.Order.Fin.Basic
public import Idealize.ShloMosaic.Lib.SortFacts

@[expose] public section

noncomputable section

namespace Cert.Proof.Nms

open Idealize.ShloMosaic

/-- Box `j` is kept after the turns of boxes `0 .. n - 1`. -/
def P (valid : ℕ → Prop) (over : ℕ → ℕ → Prop) : ℕ → ℕ → Prop
  | 0, j => valid j
  | n + 1, j => P valid over n j ∧ ¬(n < j ∧ P valid over n n ∧ over n j)

variable {valid : ℕ → Prop} {over : ℕ → ℕ → Prop}

/-- A box is kept at the end when it is kept at its own turn. -/
def kept (valid : ℕ → Prop) (over : ℕ → ℕ → Prop) (j : ℕ) : Prop := P valid over j j

theorem P_succ (n j : ℕ) : P valid over (n + 1) j ↔ P valid over n j ∧ ¬(n < j ∧ kept valid over n ∧ over n j) := Iff.rfl

/-- Turns of a box and of later boxes change nothing for it. -/
theorem P_stop {n j : ℕ} (h : j ≤ n) : P valid over n j ↔ kept valid over j := by
  induction n, h using Nat.le_induction with
  | base => rfl
  | succ n h ih =>
    rw [P_succ, ih]
    exact ⟨fun h => h.1, fun hk => ⟨hk, fun hh => by omega⟩⟩

/-- Several turns at once. -/
theorem P_add (n k j : ℕ) :
    P valid over (n + k) j ↔ P valid over n j ∧ ∀ i < k, ¬(n + i < j ∧ kept valid over (n + i) ∧ over (n + i) j) := by
  induction k with
  | zero => simp
  | succ k ih =>
    rw [← Nat.add_assoc, P_succ, ih, and_assoc]
    refine and_congr_right fun _ => ⟨fun h i hi => ?_, fun h => ⟨fun i hi => h i (by omega), h k (by omega)⟩⟩
    rcases Nat.lt_succ_iff_lt_or_eq.mp hi with hi | rfl
    · exact h.1 i hi
    · exact h.2

theorem P_valid {n j : ℕ} (h : P valid over n j) : valid j := by
  induction n with
  | zero => exact h
  | succ n ih => exact ih h.1

/-- The turns only look at smaller boxes. -/
theorem P_congr {valid' : ℕ → Prop} {over' : ℕ → ℕ → Prop} {N : ℕ} (hv : ∀ j < N, valid j ↔ valid' j)
    (ho : ∀ i < N, ∀ j < N, over i j ↔ over' i j) (n j : ℕ) (hn : n ≤ N) (hj : j < N) :
    P valid over n j ↔ P valid' over' n j := by
  induction n generalizing j with
  | zero => exact hv j hj
  | succ n ih =>
    show _ ∧ ¬(_ ∧ _ ∧ _) ↔ _ ∧ ¬(_ ∧ _ ∧ _)
    rw [ih j (by omega) hj, ih n (by omega) (by omega), ho n (by omega) j hj]

theorem kept_congr {valid' : ℕ → Prop} {over' : ℕ → ℕ → Prop} {N : ℕ} (hv : ∀ j < N, valid j ↔ valid' j)
    (ho : ∀ i < N, ∀ j < N, over i j ↔ over' i j) (j : ℕ) (hj : j < N) :
    kept valid over j ↔ kept valid' over' j := P_congr hv ho j j hj.le hj

/-! ## The order of the results -/

open Classical in
/-- How many of the numbers below `n` have the property. -/
def cnt (K : ℕ → Prop) (n : ℕ) : ℕ := ((Finset.range n).filter K).card

theorem cnt_zero (K : ℕ → Prop) : cnt K 0 = 0 := rfl

theorem cnt_succ_of {K : ℕ → Prop} {n : ℕ} (h : K n) : cnt K (n + 1) = cnt K n + 1 := by
  classical
  unfold cnt
  rw [Finset.range_add_one, Finset.filter_insert, if_pos h, Finset.card_insert_of_notMem (by simp)]

theorem cnt_succ_of_not {K : ℕ → Prop} {n : ℕ} (h : ¬K n) : cnt K (n + 1) = cnt K n := by
  classical
  unfold cnt
  rw [Finset.range_add_one, Finset.filter_insert, if_neg h]

theorem cnt_mono (K : ℕ → Prop) : Monotone (cnt K) :=
  monotone_nat_of_le_succ fun n => by
    by_cases h : K n
    · rw [cnt_succ_of h]; omega
    · rw [cnt_succ_of_not h]

theorem cnt_le (K : ℕ → Prop) (n : ℕ) : cnt K n ≤ n := by
  induction n with
  | zero => exact le_of_eq (cnt_zero K)
  | succ n ih =>
    by_cases h : K n
    · rw [cnt_succ_of h]; omega
    · rw [cnt_succ_of_not h]; omega

/-- What remains beyond `n` is at most what lies between. -/
theorem cnt_add_le (K : ℕ → Prop) {n N : ℕ} (h : n ≤ N) : cnt K N ≤ cnt K n + (N - n) := by
  induction N, h using Nat.le_induction with
  | base => omega
  | succ N h ih =>
    by_cases hk : K N
    · rw [cnt_succ_of hk]; omega
    · rw [cnt_succ_of_not hk]; omega

open Classical in
/-- The place of box `j` in the results: kept boxes first, then the others, each in index order. -/
def slot (K : ℕ → Prop) (N j : ℕ) : ℕ := if K j then cnt K j else cnt K N + (j - cnt K j)

theorem slot_of {K : ℕ → Prop} {N j : ℕ} (h : K j) : slot K N j = cnt K j := if_pos h

theorem slot_of_not {K : ℕ → Prop} {N j : ℕ} (h : ¬K j) : slot K N j = cnt K N + (j - cnt K j) := if_neg h

theorem cnt_lt {K : ℕ → Prop} {N j : ℕ} (h : K j) (hj : j < N) : cnt K j < cnt K N := by
  have := cnt_mono K (show j + 1 ≤ N from hj)
  rw [cnt_succ_of h] at this
  omega

theorem slot_lt {K : ℕ → Prop} {N j : ℕ} (hj : j < N) : slot K N j < N := by
  by_cases h : K j
  · rw [slot_of h]; exact (cnt_le K j).trans_lt hj
  · rw [slot_of_not h]
    have h1 := cnt_add_le K (show j + 1 ≤ N from hj)
    rw [cnt_succ_of_not h] at h1
    have h2 := cnt_le K j
    omega

/-- Beyond the last kept box every box sits at its own place. -/
theorem slot_beyond {K : ℕ → Prop} {N j : ℕ} (hK : ∀ i, N ≤ i → ¬K i) (hj : N ≤ j) : slot K N j = j := by
  have h : cnt K j = cnt K N := by
    induction j, hj using Nat.le_induction with
    | base => rfl
    | succ j hj ih => rw [cnt_succ_of_not (hK j hj), ih]
  rw [slot_of_not (hK j hj), h]
  have := cnt_le K N
  omega

theorem cnt_beyond {K : ℕ → Prop} {N j : ℕ} (hK : ∀ i, N ≤ i → ¬K i) (hj : N ≤ j) : cnt K j = cnt K N := by
  induction j, hj using Nat.le_induction with
  | base => rfl
  | succ j hj ih => rw [cnt_succ_of_not (hK j hj), ih]

/-- Of two boxes, the earlier has the smaller slot unless only the later is kept. -/
theorem slot_lt_slot {K : ℕ → Prop} {N i j : ℕ} (hij : i < j) (hj : j < N) :
    slot K N j < slot K N i ↔ K j ∧ ¬K i := by
  by_cases hi : K i <;> by_cases hjk : K j
  · rw [slot_of hi, slot_of hjk]
    have := cnt_mono K (show i + 1 ≤ j from hij)
    rw [cnt_succ_of hi] at this
    simp only [hi, hjk]; constructor
    · omega
    · simp
  · rw [slot_of hi, slot_of_not hjk]
    have := cnt_lt hi (hij.trans hj)
    simp only [hi, hjk]; constructor
    · omega
    · simp
  · rw [slot_of_not hi, slot_of hjk]
    have := cnt_lt hjk hj
    simp only [hi, hjk]; constructor
    · simp
    · intro _; omega
  · rw [slot_of_not hi, slot_of_not hjk]
    have h1 := cnt_add_le K (show i + 1 ≤ j from hij)
    rw [cnt_succ_of_not hi] at h1
    have h2 := cnt_le K i
    simp only [hi, hjk]; constructor
    · omega
    · simp

theorem slot_inj {K : ℕ → Prop} {N i j : ℕ} (hi : i < N) (hj : j < N) (h : slot K N i = slot K N j) : i = j := by
  have key : ∀ a b, a < b → b < N → slot K N a ≠ slot K N b := by
    intro a b hab hb
    by_cases ha : K a <;> by_cases hbk : K b
    · rw [slot_of ha, slot_of hbk]
      have := cnt_lt ha hab
      omega
    · rw [slot_of ha, slot_of_not hbk]
      have := cnt_lt ha (hab.trans hb)
      omega
    · rw [slot_of_not ha, slot_of hbk]
      have := cnt_lt hbk hb
      omega
    · rw [slot_of_not ha, slot_of_not hbk]
      have h1 := cnt_add_le K (show a + 1 ≤ b from hab)
      rw [cnt_succ_of_not ha] at h1
      have h2 := cnt_le K a
      omega
  rcases Nat.lt_trichotomy i j with hlt | heq | hgt
  · exact absurd h (key i j hlt hj)
  · exact heq
  · exact absurd h.symm (key j i hgt hi)

/-! ## A stable sort by the masked scores -/

/-- An insertion sort asks its question only of pairs in list order. -/
theorem stableSort_congr_pairwise {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2, insertBefore_congr R R' a _ fun b hb => h.1 b ((perm_stableSort R' l).mem_iff.mp hb)]

/-- A strictly increasing self-map of `Fin n` is the identity. -/
theorem strictMono_fin {n : ℕ} (f : Fin n → Fin n) (h : StrictMono f) (k : Fin n) : f k = k := by
  have hs : Function.Surjective f := Finite.surjective_of_injective h.injective
  have h1 := Subsingleton.elim (StrictMono.orderIsoOfSurjective f h hs) (OrderIso.refl (Fin n))
  have h2 := congrArg (fun e : Fin n ≃o Fin n => e k) h1
  exact h2

/-- When a later box goes before an earlier one exactly if it alone is kept, the box sorted to place `k` is the one
    whose slot is `k`. -/
theorem slot_sortedFrom {N : ℕ} (K : ℕ → Prop) (before : Fin N → Fin N → Bool)
    (h : ∀ a b : Fin N, a < b → (before b a = true ↔ K b ∧ ¬K a)) (k : Fin N) :
    slot K N (sortedFrom before k) = k := by
  classical
  let R' : Fin N → Fin N → Bool := fun b a => decide (slot K N b < slot K N a)
  have hpos : sortPositions N before = sortPositions N R' := by
    refine stableSort_congr_pairwise _ _ _ ((List.pairwise_lt_finRange N).imp fun {a b} hab => ?_)
    rw [Bool.eq_iff_iff, h a b hab]
    simp only [R', decide_eq_true_eq]
    exact (slot_lt_slot hab b.isLt).symm
  have hsf : sortedFrom before = sortedFrom R' := by
    funext k
    unfold sortedFrom
    rw [List.get_of_eq hpos]
    rfl
  rw [hsf]
  let f : Fin N → Fin N := fun k => ⟨slot K N (sortedFrom R' k), slot_lt (sortedFrom R' k).isLt⟩
  have hf : StrictMono f := by
    intro i j hij
    have h1 := sortedFrom_noInversion R' R' (by simp only [R', decide_eq_true_eq, decide_eq_false_iff_not]; omega)
      (fun _ _ h => h) (by simp only [R', decide_eq_false_iff_not]; omega) i j hij
    simp only [R', decide_eq_false_iff_not, not_lt] at h1
    refine lt_of_le_of_ne h1 fun he => ?_
    have h2 := slot_inj (sortedFrom R' i).isLt (sortedFrom R' j).isLt (congrArg Fin.val he)
    exact absurd (sortedFrom_injective R' (Fin.ext h2)) hij.ne
  exact congrArg Fin.val (strictMono_fin f hf k)

end Cert.Proof.Nms
-- ==== Proof.KCore.lean ====
/-
  The kernel's sweep read at an index, over the extended reals: what one step, one block update and the order of the
  results compute, element by element.
-/
module

public import proofs.«01_k».proof.Proof.KBlocks
public import proofs.«01_k».proof.Proof.Nms
public import Idealize.ShloMosaic.Lib.Pointwise
public import Idealize.ShloMosaic.Lib.Pointwise.IndexVar

@[expose] public section

set_option maxRecDepth 16384

noncomputable section

namespace Cert.Proof.K

open Cert.KernelIdeal Cert.KernelIdeal.Gen
open Idealize.ShloMosaic Idealize.ShloMosaic.TcCoe Idealize.ShloMosaic.WordCmp

/-- One for a true statement, zero for a false one. -/
def ind (p : Prop) : EReal := by classical exact if p then 1 else 0

theorem ind_true {p : Prop} (h : p) : ind p = 1 := by unfold ind; exact if_pos h
theorem ind_false {p : Prop} (h : ¬p) : ind p = 0 := by unfold ind; exact if_neg h
theorem ind_congr {p q : Prop} (h : p ↔ q) : ind p = ind q := by rw [propext h]

theorem ind_one_iff {p : Prop} : ind p = 1 ↔ p := by
  by_cases h : p
  · exact ⟨fun _ => h, fun _ => ind_true h⟩
  · rw [ind_false h]
    exact ⟨fun h0 => absurd h0 zero_ne_one, fun h1 => absurd h1 h⟩

theorem one_sub_one : (1 : EReal) - 1 = 0 := by
  rw [← EReal.coe_one, ← EReal.coe_sub]; simp

/-- A value cleared by a condition. -/
theorem ind_clear (p c : Prop) : ind p * (1 - ind c) = ind (p ∧ ¬c) := by
  by_cases hp : p <;> by_cases hc : c <;> simp [ind, hp, hc, one_sub_one]

theorem ind_mul (p q : Prop) : ind p * ind q = ind (p ∧ q) := by
  by_cases hp : p <;> by_cases hq : q <;> simp [ind, hp, hq]

/-- A comparison's bit, widened and read as a number. -/
theorem bit_ind (b : BitVec 1) : (FloatOps.sitofp .f32 (b.setWidth 32) : Ideal .f32) = ind (b = 1#1) := by
  rcases BitVec.eq_zero_or_eq_one b with rfl | rfl
  · rw [ind_false (by decide)]
    show ((((0#1).setWidth 32 : BitVec 32).toInt : ℝ) : EReal) = 0
    simp
  · rw [ind_true rfl]
    show ((((1#1).setWidth 32 : BitVec 32).toInt : ℝ) : EReal) = 1
    have : ((1#1).setWidth 32 : BitVec 32).toInt = 1 := by decide
    rw [this]; simp

theorem word_ind {p : CmpIPredicate} {a b : ℕ} {q : Prop}
    (h : IntOp.cmpi p (BitVec.ofNat 32 a) (BitVec.ofNat 32 b) = 1#1 ↔ q) :
    (FloatOps.sitofp .f32 ((IntOp.cmpi p (BitVec.ofNat 32 a) (BitVec.ofNat 32 b)).setWidth 32) : Ideal .f32) = ind q := by
  rw [bit_ind, ind_congr h]

theorem sgt_iff {a b : ℕ} (ha : a < 2048) (hb : b < 2048) :
    IntOp.cmpi .sgt (BitVec.ofNat 32 a) (BitVec.ofNat 32 b) = 1#1 ↔ b < a := by
  rw [cmpi_sgt_eq, ofBool_decide_eq_one_iff, toInt_ofNat_of_lt (by norm_num; omega), toInt_ofNat_of_lt (by norm_num; omega)]
  omega

theorem sge_iff {a b : ℕ} (ha : a < 2048) (hb : b < 2048) :
    IntOp.cmpi .sge (BitVec.ofNat 32 a) (BitVec.ofNat 32 b) = 1#1 ↔ b ≤ a := by
  rw [cmpi_sge_eq, ofBool_decide_eq_one_iff, toInt_ofNat_of_lt (by norm_num; omega), toInt_ofNat_of_lt (by norm_num; omega)]
  omega

theorem sle_iff {a b : ℕ} (ha : a < 2048) (hb : b < 2048) :
    IntOp.cmpi .sle (BitVec.ofNat 32 a) (BitVec.ofNat 32 b) = 1#1 ↔ a ≤ b := by
  rw [cmpi_sle_eq, ofBool_decide_eq_one_iff, toInt_ofNat_of_lt (by norm_num; omega), toInt_ofNat_of_lt (by norm_num; omega)]
  omega

theorem step_apply (sub : FVec Ideal S128x128 .f32) (n : ℕ) (h : n < 128) (k : FVec Ideal S1x128 .f32) (j : Fin 128) :
    step sub n h k (ix2 0 j) = k (ix2 0 j) * (1 - k (ix2 0 ⟨n, h⟩) * sub (ix2 ⟨n, h⟩ j) * ind (n < j.val)) := by
  pointwise [step]
  rw [word_ind (sgt_iff (by omega) (by omega))]

section Sweep

variable {valid : ℕ → Prop} {over : ℕ → ℕ → Prop}

open Nms

/-- The sweep of a block takes the turns of its boxes, one after the other. -/
theorem sweep_apply (b : ℕ) (sub : FVec Ideal S128x128 .f32) (k : FVec Ideal S1x128 .f32)
    (hk : ∀ j : Fin 128, k (ix2 0 j) = ind (P valid over (128 * b) (128 * b + j)))
    (hsub : ∀ i j : Fin 128, sub (ix2 i j) = ind (over (128 * b + i) (128 * b + j))) (n : ℕ) (hn : n ≤ 128) (j : Fin 128) :
    sweep sub k n hn (ix2 0 j) = ind (P valid over (128 * b + n) (128 * b + j)) := by
  induction n generalizing j with
  | zero => exact hk j
  | succ n ih =>
    rw [sweep, step_apply, ih, ih, hsub, ind_mul, ind_mul, ind_clear]
    refine ind_congr ?_
    rw [← Nat.add_assoc, P_succ]
    refine and_congr_right fun _ => not_congr ?_
    show (P valid over (128 * b + n) (128 * b + n) ∧ over (128 * b + n) (128 * b + j)) ∧ n < j.val ↔
      128 * b + n < 128 * b + j ∧ P valid over (128 * b + n) (128 * b + n) ∧ over (128 * b + n) (128 * b + j)
    constructor
    · rintro ⟨⟨h1, h2⟩, h3⟩; exact ⟨by omega, h1, h2⟩
    · rintro ⟨h1, h2, h3⟩; exact ⟨⟨h2, h3⟩, by omega⟩

theorem swept_apply (b : ℕ) (h : 128 * b + 128 ≤ 1024) (keep : FVec Ideal S1x1024 .f32) (sub : FVec Ideal S128x128 .f32)
    (hk : ∀ j : Fin 1024, keep (ix2 0 j) = ind (P valid over (128 * b) j))
    (hsub : ∀ i j : Fin 128, sub (ix2 i j) = ind (over (128 * b + i) (128 * b + j))) (j : Fin 128) :
    swept b h keep sub (ix2 0 j) = ind (kept valid over (128 * b + j)) := by
  unfold swept
  rw [sweep_apply (valid := valid) (over := over) b sub _ ?_ hsub]
  · exact ind_congr (P_stop (by omega))
  · intro j
    pointwise
    rw [hk]

/-- The greatest of indicators, from minus infinity. -/
theorem fold_max_ind {n : ℕ} (hn : 0 < n) (p : Fin n → Prop) (z : EReal) (hz : z ≤ 0) :
    Finset.fold max z (fun x => ind (p x)) Finset.univ = ind (∃ x, p x) := by
  by_cases h : ∃ x, p x
  · rw [ind_true h]
    obtain ⟨x, hx⟩ := h
    refine le_antisymm ((Finset.fold_max_le _).mpr ⟨hz.trans zero_le_one, fun y _ => ?_⟩)
      ((Finset.le_fold_max _).mpr (Or.inr ⟨x, Finset.mem_univ _, (ind_true hx).ge⟩))
    by_cases hy : p y
    · rw [ind_true hy]
    · rw [ind_false hy]; exact zero_le_one
  · rw [ind_false h]
    have h' : ∀ x, ¬p x := fun x hx => h ⟨x, hx⟩
    exact le_antisymm ((Finset.fold_max_le _).mpr ⟨hz, fun y _ => (ind_false (h' y)).le⟩)
      ((Finset.le_fold_max _).mpr (Or.inr ⟨⟨0, hn⟩, Finset.mem_univ _, (ind_false (h' _)).ge⟩))

theorem negInf_le_zero : Ideal.ofBits .f32 0xFF800000#32 ≤ 0 := by
  have : Ideal.ofBits .f32 0xFF800000#32 = ⊥ := by simp [Ideal.ofBits, Ideal.ieee]
  rw [this]; exact bot_le

theorem upd_apply (b : ℕ) (hb : b < 2048) (keep : FVec Ideal S1x1024 .f32) (rows : FVec Ideal S128x1024 .f32) (ks : FVec Ideal S1x128 .f32)
    (K R : ℕ → Prop) (M : ℕ → ℕ → Prop) (hk : ∀ j : Fin 1024, keep (ix2 0 j) = ind (K j))
    (hr : ∀ (i : Fin 128) (j : Fin 1024), rows (ix2 i j) = ind (M i j)) (hs : ∀ i : Fin 128, ks (ix2 0 i) = ind (R i)) (j : Fin 1024) :
    upd (BitVec.ofNat 32 b) keep rows ks (ix2 0 j) = ind (K j ∧ ¬((∃ x : Fin 128, M x j ∧ R x) ∧ b ≤ j.val)) := by
  pointwise [upd]
  rw [word_ind (sge_iff (by omega) hb)]
  simp only [hk, hr, hs, ind_mul]
  rw [fold_max_ind (by decide) _ _ negInf_le_zero, ind_mul, ind_clear]

/-- After the turns of a block, the boxes after it. -/
theorem updated_apply (b : ℕ) (h : 128 * b + 128 ≤ 1024) (keep : FVec Ideal S1x1024 .f32) (sub : FVec Ideal S128x128 .f32)
    (rows : FVec Ideal S128x1024 .f32) (hk : ∀ j : Fin 1024, keep (ix2 0 j) = ind (P valid over (128 * b) j))
    (hsub : ∀ i j : Fin 128, sub (ix2 i j) = ind (over (128 * b + i) (128 * b + j)))
    (hrows : ∀ (i : Fin 128) (j : Fin 1024), rows (ix2 i j) = ind (over (128 * b + i) j)) (j : Fin 1024)
    (hj : j.val < 128 * b ∨ 128 * b + 128 ≤ j.val) :
    updated b h keep sub rows (ix2 0 j) = ind (P valid over (128 * b + 128) j) := by
  unfold updated
  rw [upd_apply (128 * b + 128) (by omega) _ _ _ (P valid over (128 * b)) (fun i => kept valid over (128 * b + i))
    (fun i j => over (128 * b + i) j) hk hrows (swept_apply b h keep sub hk hsub)]
  refine ind_congr ?_
  rcases hj with hj | hj
  · rw [P_stop (show j.val ≤ 128 * b by omega), P_stop (show j.val ≤ 128 * b + 128 by omega)]
    exact ⟨fun h => h.1, fun h => ⟨h, fun hh => by omega⟩⟩
  · rw [P_add]
    refine and_congr_right fun _ => ⟨fun hh i hi hc => hh ⟨⟨⟨i, hi⟩, hc.2.2, hc.2.1⟩, hj⟩, ?_⟩
    rintro hh ⟨⟨x, h1, h2⟩, _⟩
    exact hh x x.isLt ⟨by omega, h2, h1⟩

theorem midBlock_apply (b : ℕ) (h : 128 * b + 128 ≤ 1024) (keep : FVec Ideal S1x1024 .f32) (sub : FVec Ideal S128x128 .f32)
    (rows : FVec Ideal S128x1024 .f32) (hk : ∀ j : Fin 1024, keep (ix2 0 j) = ind (P valid over (128 * b) j))
    (hsub : ∀ i j : Fin 128, sub (ix2 i j) = ind (over (128 * b + i) (128 * b + j)))
    (hrows : ∀ (i : Fin 128) (j : Fin 1024), rows (ix2 i j) = ind (over (128 * b + i) j)) (j : Fin 1024) :
    midBlock b h keep sub rows (ix2 0 j) = ind (P valid over (128 * b + 128) j) := by
  unfold midBlock
  pointwise [glueMid]
  split
  · exact updated_apply b h keep sub rows hk hsub hrows j (Or.inl ‹_›)
  · split
    · rename_i h1 h2
      rw [swept_apply b h keep sub hk hsub]
      refine ind_congr ?_
      show kept valid over (128 * b + (j.val - 128 * b)) ↔ _
      rw [show 128 * b + (j.val - 128 * b) = j.val by omega, P_stop (by omega)]
    · rename_i h1 h2
      have e : (⟨128 * b + 128 + (j.val - 128 * b - 128), by omega⟩ : Fin 1024) = j := Fin.ext (by simp only []; omega)
      have := updated_apply b h keep sub rows hk hsub hrows j (Or.inr (by omega))
      rw [← this]
      exact congrArg (fun x => updated b h keep sub rows (ix2 0 x)) e

theorem firstBlock_apply (keep : FVec Ideal S1x1024 .f32) (sub : FVec Ideal S128x128 .f32)
    (rows : FVec Ideal S128x1024 .f32) (hk : ∀ j : Fin 1024, keep (ix2 0 j) = ind (P valid over (128 * 0) j))
    (hsub : ∀ i j : Fin 128, sub (ix2 i j) = ind (over (128 * 0 + i) (128 * 0 + j)))
    (hrows : ∀ (i : Fin 128) (j : Fin 1024), rows (ix2 i j) = ind (over (128 * 0 + i) j)) (j : Fin 1024) :
    glueFirst (updated 0 (by decide) keep sub rows) (swept 0 (by decide) keep sub) (ix2 0 j)
      = ind (P valid over (128 * 0 + 128) j) := by
  pointwise [glueFirst]
  split
  · rename_i h1
    rw [swept_apply 0 _ keep sub hk hsub]
    refine ind_congr ?_
    show kept valid over (128 * 0 + j.val) ↔ _
    rw [show 128 * 0 + j.val = j.val by omega, P_stop (by omega)]
  · rename_i h1
    rw [← updated_apply 0 (by decide) keep sub rows hk hsub hrows j (Or.inr (by omega))]
    exact congrArg (fun x => updated 0 _ keep sub rows (ix2 0 x)) (Fin.ext (by simp only []; omega))

theorem lastBlock_apply (keep : FVec Ideal S1x1024 .f32) (sub : FVec Ideal S128x128 .f32)
    (rows : FVec Ideal S128x1024 .f32) (hk : ∀ j : Fin 1024, keep (ix2 0 j) = ind (P valid over (128 * 7) j))
    (hsub : ∀ i j : Fin 128, sub (ix2 i j) = ind (over (128 * 7 + i) (128 * 7 + j)))
    (hrows : ∀ (i : Fin 128) (j : Fin 1024), rows (ix2 i j) = ind (over (128 * 7 + i) j)) (j : Fin 1024) :
    glueLast (updated 7 (by decide) keep sub rows) (swept 7 (by decide) keep sub) (ix2 0 j)
      = ind (P valid over (128 * 7 + 128) j) := by
  pointwise [glueLast]
  split
  · exact updated_apply 7 (by decide) keep sub rows hk hsub hrows j (Or.inl ‹_›)
  · rename_i h1
    rw [swept_apply 7 _ keep sub hk hsub]
    refine ind_congr ?_
    show kept valid over (128 * 7 + (j.val - 896)) ↔ _
    rw [show 128 * 7 + (j.val - 896) = j.val by omega, P_stop (by omega)]

end Sweep

/-! ## The order of the results -/

section Order

open Nms

variable {K : ℕ → Prop}

theorem ind_nat (p : Prop) [Decidable p] : ind p = (((if p then 1 else 0 : ℕ)) : EReal) := by
  by_cases h : p
  · rw [ind_true h, if_pos h]; simp
  · rw [ind_false h, if_neg h]; simp

open Classical in
theorem sum_count (N j : ℕ) (hj : j < N) :
    (∑ x : Fin N, if K x.val ∧ x.val ≤ j then 1 else 0 : ℕ) = cnt K (j + 1) := by
  rw [Fin.sum_univ_eq_sum_range (fun x => if K x ∧ x ≤ j then 1 else 0) N, ← Finset.card_filter]
  unfold cnt
  congr 1
  ext x
  simp only [Finset.mem_filter, Finset.mem_range]
  constructor
  · rintro ⟨_, h1, h2⟩; exact ⟨by omega, h1⟩
  · rintro ⟨h1, h2⟩; exact ⟨by omega, h2, by omega⟩

theorem counts_apply (keep : FVec Ideal S1x1024 .f32) (hk : ∀ j : Fin 1024, keep (ix2 0 j) = ind (K j)) (j : Fin 1024) :
    counts keep (ix2 0 j) = ((cnt K (j.val + 1) : ℕ) : EReal) := by
  classical
  pointwise [counts]
  have e : ∀ x : Fin 1024, keep (ix2 0 x) * FloatOps.sitofp FTy.f32
      (BitVec.setWidth 32 (IntOp.cmpi CmpIPredicate.sle (BitVec.ofNat 32 x.val) (BitVec.ofNat 32 j.val)))
      = (((if K x ∧ x.val ≤ j.val then 1 else 0 : ℕ)) : EReal) := fun x => by
    rw [word_ind (sle_iff (by omega) (by omega)), hk, ind_mul, ind_nat]
  rw [Finset.sum_congr rfl fun x _ => e x, ← Nat.cast_sum, sum_count 1024 j.val j.isLt]

theorem nat_sub {a b : ℕ} (h : b ≤ a) : ((a : ℕ) : EReal) - ((b : ℕ) : EReal) = ((a - b : ℕ) : EReal) := by
  rw [← EReal.coe_natCast, ← EReal.coe_natCast, ← EReal.coe_natCast, ← EReal.coe_sub, Nat.cast_sub h]

theorem nat_sub_one {a : ℕ} (h : 1 ≤ a) : ((a : ℕ) : EReal) - 1 = ((a - 1 : ℕ) : EReal) := by
  rw [← nat_sub h, Nat.cast_one]

theorem word_nat {n : ℕ} (h : n < 2048) : (FloatOps.sitofp .f32 (BitVec.ofNat 32 n) : Ideal .f32) = ((n : ℕ) : EReal) := by
  show (((BitVec.ofNat 32 n).toInt : ℝ) : EReal) = _
  rw [toInt_ofNat_of_lt (by norm_num; omega)]
  simp

theorem slots_apply (keep : FVec Ideal S1x1024 .f32) (hk : ∀ j : Fin 1024, keep (ix2 0 j) = ind (K j)) (j : Fin 1024) :
    slots keep (ix2 0 j) = ((slot K 1024 j.val : ℕ) : EReal) := by
  pointwise [slots]
  rw [counts_apply keep hk, counts_apply keep hk, word_nat (by omega), hk]
  have hle := cnt_le K j.val
  by_cases h : K j
  · rw [ind_true h, one_sub_one, zero_mul, add_zero, one_mul, slot_of h, cnt_succ_of h, nat_sub_one (by omega)]
    rfl
  · rw [ind_false h, zero_mul, zero_add, sub_zero, one_mul, slot_of_not h, cnt_succ_of_not h, ← Nat.cast_add_one,
      nat_sub (by omega), ← Nat.cast_add, nat_sub_one (by omega)]
    refine congrArg _ ?_
    show cnt K ((1023 : Fin 1024).val + 1) + (j.val + 1 - cnt K j.val) - 1 = _
    rw [show ((1023 : Fin 1024).val + 1) = 1024 from rfl]
    omega

/-- Column `r` of the result is the payload of the box whose slot is `r`. -/
theorem emit_apply (G : FVec Ideal S8x1024 .f32) (sc keep : FVec Ideal S1x1024 .f32)
    (hk : ∀ j : Fin 1024, keep (ix2 0 j) = ind (K j)) (q : Fin 8) (r : Fin 304) (b : Fin 1024) (hb : slot K 1024 b.val = r.val) :
    emit G sc keep (ix3 0 q r) = payload G sc keep (ix2 q b) := by
  pointwise [emit]
  simp only [bit_ind, ofBool_decide_eq_one_iff, slots_apply keep hk, word_nat (show r.val < 2048 by omega)]
  rw [Finset.sum_eq_single b]
  · rw [ind_true (by rw [hb]), mul_one]
  · intro x _ hx
    rw [ind_false, mul_zero]
    intro he
    have he' : slot K 1024 x.val = r.val := by exact_mod_cast he
    exact hx (Fin.ext (slot_inj x.isLt b.isLt (he'.trans hb.symm)))
  · intro h; exact absurd (Finset.mem_univ _) h

end Order

end Cert.Proof.K
-- ==== Proof.Box.lean ====
/-
  One candidate box, as mathematics over the extended reals: its four corners from the four regression codes and the four
  anchor coordinates, whether it takes part, and whether two boxes overlap by more than the threshold.
-/
module

public import proofs.«01_k».proof.Proof.Nms
public import Idealize.ShloMosaic.Lib.Pointwise
public import Idealize.ShloMosaic.Lib.Pointwise.IndexVar

@[expose] public section

noncomputable section

namespace Cert.Proof.Box

open Idealize.ShloMosaic

/-- One half, the bound of the size codes, the largest coordinate and the threshold, as the programs spell them. -/
abbrev half : EReal := Ideal.ofBits .f32 1056964608#32
abbrev top : EReal := Ideal.ofBits .f32 1082413897#32
abbrev edge : EReal := Ideal.ofBits .f32 1145552896#32
abbrev thr : EReal := Ideal.ofBits .f32 1060320051#32

/-- Entries 0 to 3 of `d` are the codes (x, y, width, height), entries 4 to 7 the anchor (x1, y1, x2, y2). -/
abbrev Data := Fin 8 → EReal

/-- A coordinate moved into the image. -/
def clamp (x : EReal) : EReal := min edge (max 0 x)

/-- The low and the high end of a box along one axis: code `t` for the centre, `s` for the size, anchor from `a` to `b`. -/
def low (t s a b : EReal) : EReal :=
  clamp (t * (b - a + 1) + (a + half * (b - a + 1)) - half * (Ideal.exp (min s top) * (b - a + 1)))
def high (t s a b : EReal) : EReal :=
  clamp (t * (b - a + 1) + (a + half * (b - a + 1)) + half * (Ideal.exp (min s top) * (b - a + 1)) - 1)

def x1 (d : Data) : EReal := low (d 0) (d 2) (d 4) (d 6)
def y1 (d : Data) : EReal := low (d 1) (d 3) (d 5) (d 7)
def x2 (d : Data) : EReal := high (d 0) (d 2) (d 4) (d 6)
def y2 (d : Data) : EReal := high (d 1) (d 3) (d 5) (d 7)

/-- The size of a box. -/
def area (d : Data) : EReal := (x2 d - x1 d + 1) * (y2 d - y1 d + 1)

/-- The size of the common part of two boxes. -/
def inter (a b : Data) : EReal :=
  max (min (x2 a) (x2 b) - max (x1 a) (x1 b) + 1) 0 * max (min (y2 a) (y2 b) - max (y1 a) (y1 b) + 1) 0

/-- The two boxes overlap by more than the threshold. -/
def over (a b : Data) : Prop := thr < Ideal.div (inter a b) (area a + area b - inter a b)

/-- The box is not empty. -/
def full (d : Data) : Prop := 0 ≤ x2 d - x1 d + 1 ∧ 0 ≤ y2 d - y1 d + 1

/-- Box number `j` is one of the 1000 candidates and is not empty. -/
def validN (D : ℕ → Data) (j : ℕ) : Prop := full (D j) ∧ j < 1000

/-- Boxes `i` and `j` overlap by more than the threshold. -/
def overN (D : ℕ → Data) (i j : ℕ) : Prop := over (D i) (D j)

/-- Which boxes the greedy sweep over 1000 candidates keeps. -/
def keptN (D : ℕ → Data) (j : ℕ) : Prop := Nms.kept (validN D) (overN D) j

theorem keptN_lt {D : ℕ → Data} {j : ℕ} (h : keptN D j) : j < 1000 := (Nms.P_valid h).2

/-- A kept box keeps its score, a cleared one gets the fill value. -/
abbrev fill : EReal := Ideal.ofBits .f32 3491037945#32

end Cert.Proof.Box
-- ==== Proof.KIou.lean ====
/-
  The kernel's overlap matrix and its start values read at an index: which pairs of boxes overlap, which boxes take
  part, and what the tiles loaded in the sweep hold.
-/
module

public import proofs.«01_k».proof.Proof.KCore
public import proofs.«01_k».proof.Proof.Box
public import Idealize.ShloMosaic.Lib.Pipeline.Value

@[expose] public section

set_option maxRecDepth 16384

noncomputable section

namespace Cert.Proof.K

open Cert.KernelIdeal Cert.KernelIdeal.Gen Cert.Proof
open Idealize.ShloMosaic Idealize.ShloMosaic.TcCoe Idealize.ShloMosaic.WordCmp
open Idealize.SL.Sem
open Cert.Proof.Nms (P)

section
variable {G : FVec Ideal S8x1024 .f32} {D : ℕ → Box.Data} (hG : ∀ (q : Fin 8) (j : Fin 1024), G (ix2 q j) = D j q)
include hG

theorem cX1_apply (j : Fin 1024) : cX1 G (ix2 0 j) = Box.x1 (D j) := by
  pointwise [cX1, k0_pay14, k0_pay13, k0_pay9, k0_pay11, k0_pay5, k0_pay7]
  simp only [hG]; rfl

theorem cY1_apply (j : Fin 1024) : cY1 G (ix2 0 j) = Box.y1 (D j) := by
  pointwise [cY1, k0_pay15, k0_pay10, k0_pay12, k0_pay8, k0_pay6]
  simp only [hG]; rfl

theorem cX2_apply (j : Fin 1024) : cX2 G (ix2 0 j) = Box.x2 (D j) := by
  pointwise [cX2, k0_pay16, k0_pay9, k0_pay11, k0_pay5, k0_pay7]
  simp only [hG]; rfl

theorem cY2_apply (j : Fin 1024) : cY2 G (ix2 0 j) = Box.y2 (D j) := by
  pointwise [cY2, k0_pay17, k0_pay10, k0_pay12, k0_pay8, k0_pay6]
  simp only [hG]; rfl

theorem iouRows_apply (o : ℕ) (h : o + 128 ≤ 1024) (i : Fin 128) (j : Fin 1024) :
    iouRows G o h (ix2 i j) = ind (Box.overN D (o + i) j) := by
  pointwise [iouRows, extent, colOf, rowOf, cArea, k0_pay20]
  simp only [bit_ind, ofBool_decide_eq_one_iff, cX1_apply hG, cX2_apply hG, cY1_apply hG, cY2_apply hG]
  rfl

theorem keepInit_apply (j : Fin 1024) : keepInit G (ix2 0 j) = ind (Box.validN D j) := by
  have e1 : ∀ j : Fin 1024, k0_pay16 (k0_pay9 G) (k0_pay11 G) (ix2 0 j) = Box.x2 (D j) := cX2_apply hG
  have e2 : ∀ j : Fin 1024, k0_pay14 (k0_pay9 G) (k0_pay13 G) (ix2 0 j) = Box.x1 (D j) := cX1_apply hG
  have e3 : ∀ j : Fin 1024, k0_pay17 (k0_pay10 G) (k0_pay12 G) (ix2 0 j) = Box.y2 (D j) := cY2_apply hG
  have e4 : ∀ j : Fin 1024, k0_pay15 (k0_pay10 G) (k0_pay12 G) (ix2 0 j) = Box.y1 (D j) := cY1_apply hG
  pointwise [keepInit, k0_pay35, k0_pay19, k0_pay18]
  simp only [bit_ind, e1, e2, e3, e4]
  apply ind_congr
  have hj : (BitVec.ofNat 32 j.val).toInt = j.val := toInt_ofNat_of_lt (by have := j.isLt; omega)
  have h1 : IntOp.cmpi .slt (BitVec.ofNat 32 j.val) 1000#32 = BitVec.ofBool (decide (j.val < 1000)) := by
    rw [cmpi_slt_eq]
    congr 1
    rw [hj]
    have : (1000#32 : BitVec 32).toInt = 1000 := by decide
    rw [this]
    by_cases hh : j.val < 1000 <;> simp [hh] <;> omega
  have h2 : ∀ b : Bool, BitVec.ofBool b = 1#1 ↔ b = true := by decide
  rw [h1, andi_ofBool, andi_ofBool, h2]
  simp only [Bool.and_eq_true, decide_eq_true_eq]
  rfl

theorem payload_corner (sc keep : FVec Ideal S1x1024 .f32) (j : Fin 1024) :
    payload G sc keep (ix2 0 j) = Box.x1 (D j) ∧ payload G sc keep (ix2 1 j) = Box.y1 (D j) ∧
    payload G sc keep (ix2 2 j) = Box.x2 (D j) ∧ payload G sc keep (ix2 3 j) = Box.y2 (D j) := by
  refine ⟨?_, ?_, ?_, ?_⟩
  · pointwise [payload]; exact cX1_apply hG j
  · pointwise [payload]; exact cY1_apply hG j
  · pointwise [payload]; exact cX2_apply hG j
  · pointwise [payload]; exact cY2_apply hG j

theorem payload_score (sc keep : FVec Ideal S1x1024 .f32) (j : Fin 1024) :
    payload G sc keep (ix2 4 j) = keep (ix2 0 j) * sc (ix2 0 j) + (1 - keep (ix2 0 j)) * Box.fill := by
  pointwise [payload]

/-- The whole overlap matrix. -/
def overMatrix (D : ℕ → Box.Data) (y : S1024x1024.Idx) : EReal := ind (Box.overN D (y 0).val (y 1).val)

theorem piece_matrix (o : ℕ) (h : o + 128 ≤ 1024) (inb : ∀ a, (![o, 0] : Fin 2 → ℕ) a + S128x1024.size a ≤ S1024x1024.size a)
    (x : S128x1024.Idx) :
    iouRows G o h x = overMatrix D ((Rect.unit (s := S1024x1024) ![o, 0] S128x1024.size inb).emb x) := by
  obtain ⟨a, b, rfl⟩ : ∃ (a : Fin 128) (b : Fin 1024), x = ix2 a b := ⟨x 0, x 1, eq_ix2 x⟩
  rw [iouRows_apply hG]
  apply ind_congr
  have e0 : (((Rect.unit (s := S1024x1024) ![o, 0] S128x1024.size inb).emb (ix2 a b) 0).val) = o + a.val := by
    show o + 1 * a.val = _; omega
  have e1 : (((Rect.unit (s := S1024x1024) ![o, 0] S128x1024.size inb).emb (ix2 a b) 1).val) = b.val := by
    show 0 + 1 * b.val = _; omega
  rw [e0, e1]

theorem canon_matrix (y : S1024x1024.Idx) : View.canon (ioePieces G) y = overMatrix D y := by
  refine View.canon_apply_of_pieces (Val := Elt Ideal) (e := .f32) (overMatrix D) _ ?_ y ?_
  · intro p hp
    simp only [ioePieces, List.mem_cons, List.not_mem_nil, or_false] at hp
    rcases hp with rfl | rfl | rfl | rfl | rfl | rfl | rfl | rfl
    · exact piece_matrix hG 896 (by decide) inb_S1024x1024_S128x1024_896_0
    · exact piece_matrix hG 768 (by decide) inb_S1024x1024_S128x1024_768_0
    · exact piece_matrix hG 640 (by decide) inb_S1024x1024_S128x1024_640_0
    · exact piece_matrix hG 512 (by decide) inb_S1024x1024_S128x1024_512_0
    · exact piece_matrix hG 384 (by decide) inb_S1024x1024_S128x1024_384_0
    · exact piece_matrix hG 256 (by decide) inb_S1024x1024_S128x1024_256_0
    · exact piece_matrix hG 128 (by decide) inb_S1024x1024_S128x1024_128_0
    · exact piece_matrix hG 0 (by decide) inb_S1024x1024_S128x1024_0_0
  · have hmem : ∀ (o : ℕ) (inb : ∀ a, (![o, 0] : Fin 2 → ℕ) a + S128x1024.size a ≤ S1024x1024.size a),
        o ≤ (y 0).val → (y 0).val < o + 128 → y ∈ (Rect.unit (s := S1024x1024) ![o, 0] S128x1024.size inb).set := by
      intro o inb h1 h2
      rw [LoadRect.mem_set]
      intro a
      match a with
      | ⟨0, _⟩ => exact ⟨(y 0).val - o, by show _ < 128; omega, by show (y 0).val = o + 1 * ((y 0).val - o); omega⟩
      | ⟨1, _⟩ => exact ⟨(y 1).val, (y 1).isLt, by show (y 1).val = 0 + 1 * (y 1).val; omega⟩
    have h0 : (y 0).val < 1024 := (y 0).isLt
    by_cases c1 : (y 0).val < 128
    · exact ⟨_, .tail _ (.tail _ (.tail _ (.tail _ (.tail _ (.tail _ (.tail _ (.head _))))))), hmem 0 inb_S1024x1024_S128x1024_0_0 (by omega) (by omega)⟩
    by_cases c2 : (y 0).val < 256
    · exact ⟨_, .tail _ (.tail _ (.tail _ (.tail _ (.tail _ (.tail _ (.head _)))))), hmem 128 inb_S1024x1024_S128x1024_128_0 (by omega) (by omega)⟩
    by_cases c3 : (y 0).val < 384
    · exact ⟨_, .tail _ (.tail _ (.tail _ (.tail _ (.tail _ (.head _))))), hmem 256 inb_S1024x1024_S128x1024_256_0 (by omega) (by omega)⟩
    by_cases c4 : (y 0).val < 512
    · exact ⟨_, .tail _ (.tail _ (.tail _ (.tail _ (.head _)))), hmem 384 inb_S1024x1024_S128x1024_384_0 (by omega) (by omega)⟩
    by_cases c5 : (y 0).val < 640
    · exact ⟨_, .tail _ (.tail _ (.tail _ (.head _))), hmem 512 inb_S1024x1024_S128x1024_512_0 (by omega) (by omega)⟩
    by_cases c6 : (y 0).val < 768
    · exact ⟨_, .tail _ (.tail _ (.head _)), hmem 640 inb_S1024x1024_S128x1024_640_0 (by omega) (by omega)⟩
    by_cases c7 : (y 0).val < 896
    · exact ⟨_, .tail _ (.head _), hmem 768 inb_S1024x1024_S128x1024_768_0 (by omega) (by omega)⟩
    · exact ⟨_, .head _, hmem 896 inb_S1024x1024_S128x1024_896_0 (by omega) (by omega)⟩

variable (arg5 : Memref sig .tc .vmem S1024x1024 .f32)

theorem subT_apply (b : ℕ) (h : ∀ a, (![128 * b, 128 * b] : Fin 2 → ℕ) a + S128x128.size a ≤ S1024x1024.size a)
    (i j : Fin 128) : subT arg5 G b h (ix2 i j) = ind (Box.overN D (128 * b + i) (128 * b + j)) := by
  unfold subT
  rw [View.readCov_eq_canon']
  refine (canon_matrix hG _).trans ?_
  apply ind_congr
  have e0 : (((Rect.unit (s := S1024x1024) ![128 * b, 128 * b] S128x128.size h).toLoadRect.idx (ix2 i j) 0).val) = 128 * b + i.val := by
    show 128 * b + 1 * i.val = _; omega
  have e1 : (((Rect.unit (s := S1024x1024) ![128 * b, 128 * b] S128x128.size h).toLoadRect.idx (ix2 i j) 1).val) = 128 * b + j.val := by
    show 128 * b + 1 * j.val = _; omega
  rw [e0, e1]

theorem rowsT_apply (b : ℕ) (h : ∀ a, (![128 * b, 0] : Fin 2 → ℕ) a + S128x1024.size a ≤ S1024x1024.size a)
    (i : Fin 128) (j : Fin 1024) : rowsT arg5 G b h (ix2 i j) = ind (Box.overN D (128 * b + i) j) := by
  unfold rowsT
  rw [View.readCov_eq_canon']
  refine (canon_matrix hG _).trans ?_
  apply ind_congr
  have e0 : (((Rect.unit (s := S1024x1024) ![128 * b, 0] S128x1024.size h).toLoadRect.idx (ix2 i j) 0).val) = 128 * b + i.val := by
    show 128 * b + 1 * i.val = _; omega
  have e1 : (((Rect.unit (s := S1024x1024) ![128 * b, 0] S128x1024.size h).toLoadRect.idx (ix2 i j) 1).val) = j.val := by
    show 0 + 1 * j.val = _; omega
  rw [e0, e1]

/-- What the eight blocks leave. -/
theorem keep7_apply (j : Fin 1024) : keep7 arg5 G (ix2 0 j) = ind (Box.keptN D j) := by
  have h0 : ∀ j : Fin 1024, keep0 arg5 G (ix2 0 j) = ind (P (Box.validN D) (Box.overN D) (128 * 1) j) :=
    firstBlock_apply _ _ _ (keepInit_apply hG) (subT_apply hG arg5 0 _) (rowsT_apply hG arg5 0 _)
  have h1 : ∀ j : Fin 1024, keep1 arg5 G (ix2 0 j) = ind (P (Box.validN D) (Box.overN D) (128 * 2) j) :=
    midBlock_apply 1 _ _ _ _ h0 (subT_apply hG arg5 1 _) (rowsT_apply hG arg5 1 _)
  have h2 : ∀ j : Fin 1024, keep2 arg5 G (ix2 0 j) = ind (P (Box.validN D) (Box.overN D) (128 * 3) j) :=
    midBlock_apply 2 _ _ _ _ h1 (subT_apply hG arg5 2 _) (rowsT_apply hG arg5 2 _)
  have h3 : ∀ j : Fin 1024, keep3 arg5 G (ix2 0 j) = ind (P (Box.validN D) (Box.overN D) (128 * 4) j) :=
    midBlock_apply 3 _ _ _ _ h2 (subT_apply hG arg5 3 _) (rowsT_apply hG arg5 3 _)
  have h4 : ∀ j : Fin 1024, keep4 arg5 G (ix2 0 j) = ind (P (Box.validN D) (Box.overN D) (128 * 5) j) :=
    midBlock_apply 4 _ _ _ _ h3 (subT_apply hG arg5 4 _) (rowsT_apply hG arg5 4 _)
  have h5 : ∀ j : Fin 1024, keep5 arg5 G (ix2 0 j) = ind (P (Box.validN D) (Box.overN D) (128 * 6) j) :=
    midBlock_apply 5 _ _ _ _ h4 (subT_apply hG arg5 5 _) (rowsT_apply hG arg5 5 _)
  have h6 : ∀ j : Fin 1024, keep6 arg5 G (ix2 0 j) = ind (P (Box.validN D) (Box.overN D) (128 * 7) j) :=
    midBlock_apply 6 _ _ _ _ h5 (subT_apply hG arg5 6 _) (rowsT_apply hG arg5 6 _)
  have h7 : keep7 arg5 G (ix2 0 j) = ind (P (Box.validN D) (Box.overN D) (128 * 7 + 128) j) :=
    lastBlock_apply _ _ _ h6 (subT_apply hG arg5 7 _) (rowsT_apply hG arg5 7 _) j
  rw [h7]
  exact ind_congr (Nms.P_stop (by have := j.isLt; omega))

end

end Cert.Proof.K
-- ==== Proof.KGather.lean ====
/-
  The kernel's gather: after the loop over the 59 chunks, column `j` holds the data of the box that the index row names.
-/
module

public import proofs.«01_k».proof.Proof.KCore
public import Idealize.ShloMosaic.Lib.Pipeline.ValueKit

@[expose] public section

set_option maxRecDepth 16384

noncomputable section

namespace Cert.Proof.K

open Cert.KernelIdeal Cert.KernelIdeal.Gen Cert.Proof
open Idealize.ShloMosaic Idealize.ShloMosaic.TcCoe Idealize.ShloMosaic.WordCmp
open Idealize.SL.Sem

/-- The loop runs once for each chunk. -/
theorem trips_eq : k0_t1_loop.trips = 59 := by decide +kernel

section Trip
variable {F : FTy → Type} [FloatOps F]
variable (c : Dev nD) (i : grid0.Coords)
  (arg1 : Memref sig .tc .vmem S1x1x1024 .f32) (harg1 : arg1.IsWhole)
  (arg2 : Memref sig .tc .vmem S1x1x1024 .i32) (harg2 : arg2.IsWhole)
  (arg3 : Memref sig .tc .vmem S1x59x8x2048 .f32) (harg3 : arg3.IsWhole)
  (arg4 : Memref sig .tc .vmem S1x8x304 .f32) (harg4 : arg4.IsWhole)
  (arg5 : Memref sig .tc .vmem S1024x1024 .f32) (harg5 : arg5.IsWhole)

/-- One trip adds the chunk's part. -/
theorem trip_eq (v2 : Vec F S1x1x1024 .i32) (X : BufTy.Contents (Elt F) arg3.view.ty) (k : Fin k0_t1_loop.trips)
    (acc : FVec F S8x1024 .f32) :
    tripR_k0_t1 Variants.none c none i arg1 harg1 arg2 harg2 arg3 harg3 arg4 harg4 arg5 harg5 v2 X k acc
      = k0_pay4 v2 k acc (View.readAt (Elt F) arg3.view
          (Rect.unit (s := S1x59x8x2048) (k0_off1 k) S1x1x8x2048.size (k0_off1_inb k)).toLoadRect X) := by
  sl_kernel_rfl

/-- Reading a whole one-row window gives the row. -/
theorem read_row {e : EltTy} (a : Memref sig .tc .vmem S1x1x1024 e) (ha : a.IsWhole) (x : Vec F S1x1x1024 e) :
    View.readAt (Elt F) a.view (Rect.unit ![0, 0, 0] S1x1x1024.size inb_S1x1x1024_S1x1x1024_0_0_0).toLoadRect (ha.unread x) = x := by
  rw [View.readAt_eq_ld, ha.read_unread]
  exact View.ld_unit_lit _ _ (by decide)

/-- The score row read back. -/
theorem scoreRow_eq (x0 : Vec F S1x1x1024 .f32) : scoreRow arg1 harg1 x0 = k0_pay2 x0 := by
  unfold scoreRow
  rw [read_row]

/-- The chunk read on trip `k`. -/
theorem chunk_apply (x2 : Vec F S1x59x8x2048 .f32) (k : Fin k0_t1_loop.trips) (k' : Fin 59) (hk : k.val = k'.val)
    (q : Fin 8) (x : Fin 2048) :
    View.readAt (Elt F) arg3.view (Rect.unit (s := S1x59x8x2048) (k0_off1 k) S1x1x8x2048.size (k0_off1_inb k)).toLoadRect
      (harg3.unread x2) (ix4 0 0 q x) = x2 (ix4 0 k' q x) := by
  rw [View.readAt_eq_ld, harg3.read_unread]
  refine View.ld_unit_apply_of _ _ _ _ _ _ ?_
  intro a
  have e : k0_off1 k a = (![0, k.val, 0, 0] : Fin 4 → ℕ) a := congrFun (k0_off1_eq k) a
  refine Eq.trans ?_ (congrArg (· + _) e.symm)
  match a with
  | ⟨0, _⟩ => rfl
  | ⟨1, _⟩ => show k'.val = k.val + 0; omega
  | ⟨2, _⟩ => show q.val = 0 + q.val; omega
  | ⟨3, _⟩ => show x.val = 0 + x.val; omega
end Trip

/-- The word compared on trip `k` names the box `n` exactly when `x + 2048 k` is its number. -/
theorem word_hit {x k n : ℕ} (hx : x < 2048) (hk : k < 59) (hn : n < 120832) :
    IntOp.cmpi .eq (IntOp.addi (BitVec.ofNat 32 x) (Scalar.muli (Scf.iv 0#32 1#32 k) 2048#32)) (BitVec.ofNat 32 n) = 1#1
      ↔ x + 2048 * k = n := by
  have e : IntOp.addi (BitVec.ofNat 32 x) (Scalar.muli (Scf.iv 0#32 1#32 k) 2048#32) = BitVec.ofNat 32 (x + 2048 * k) := by
    apply BitVec.eq_of_toNat_eq
    simp only [IntOp.addi, Scalar.muli, IntOp.muli, Scf.iv, BitVec.toNat_add, BitVec.toNat_mul, BitVec.toNat_ofNat]
    omega
  rw [e]
  rw [cmpi_eq_eq, ofBool_decide_eq_one_iff]
  constructor
  · intro hh
    have := congrArg BitVec.toNat hh
    simp only [BitVec.toNat_ofNat] at this
    omega
  · rintro rfl; rfl

/-- One chunk's part at column `j`: the box's data when the chunk holds it, else nothing. -/
theorem pay4_apply (v2 : Vec Ideal S1x1x1024 .i32) (k : Fin k0_t1_loop.trips) (acc : FVec Ideal S8x1024 .f32)
    (v : Vec Ideal S1x1x8x2048 .f32) (q : Fin 8) (j : Fin 1024) (n : ℕ) (hn : n < 120832)
    (hv : v2 (ix3 0 0 j) = BitVec.ofNat 32 n) (z : EReal) (hz : v (ix4 0 0 q ⟨n % 2048, by omega⟩) = z) :
    k0_pay4 v2 k acc v (ix2 q j)
      = acc (ix2 q j) + if 2048 * k.val ≤ n ∧ n < 2048 * k.val + 2048 then z else 0 := by
  subst hz
  have hk : k.val < 59 := Nat.lt_of_lt_of_le k.isLt k0_t1_abs.2.1
  pointwise [k0_pay4]
  simp only [hv, bit_ind, word_hit (Fin.isLt _) hk hn]
  congr 1
  split
  · rename_i h
    rw [Finset.sum_eq_single (⟨n % 2048, by omega⟩ : Fin 2048)]
    · rw [ind_true (by show n % 2048 + 2048 * k.val = n; omega), mul_one]
    · intro x _ hx
      rw [ind_false, mul_zero]
      intro h2
      exact hx (Fin.ext (by show x.val = n % 2048; omega))
    · intro h; exact absurd (Finset.mem_univ _) h
  · rename_i h
    refine Finset.sum_eq_zero fun x _ => ?_
    rw [ind_false, mul_zero]
    intro h2
    exact h (by have := x.isLt; omega)

section
variable (c : Dev nD) (i : grid0.Coords)
  (arg1 : Memref sig .tc .vmem S1x1x1024 .f32) (harg1 : arg1.IsWhole)
  (arg2 : Memref sig .tc .vmem S1x1x1024 .i32) (harg2 : arg2.IsWhole)
  (arg3 : Memref sig .tc .vmem S1x59x8x2048 .f32) (harg3 : arg3.IsWhole)
  (arg4 : Memref sig .tc .vmem S1x8x304 .f32) (harg4 : arg4.IsWhole)
  (arg5 : Memref sig .tc .vmem S1024x1024 .f32) (harg5 : arg5.IsWhole)

/-- The gathered rows: the data of the box that the index row names. -/
theorem gathered_apply (x1 : Vec Ideal S1x1x1024 .i32) (x2 : Vec Ideal S1x59x8x2048 .f32) (q : Fin 8) (j : Fin 1024)
    (n : ℕ) (hn : n < 120832) (hv : x1 (ix3 0 0 j) = BitVec.ofNat 32 n) :
    gathered c i arg1 harg1 arg2 harg2 arg3 harg3 arg4 harg4 arg5 harg5 x1 x2 (ix2 q j)
      = x2 (ix4 0 ⟨n / 2048, by omega⟩ q ⟨n % 2048, by omega⟩) := by
  unfold gathered
  rw [read_row]
  have key : ∀ k : ℕ, k ≤ 59 →
      st_k0_t1 Variants.none c none i arg1 harg1 arg2 harg2 arg3 harg3 arg4 harg4 arg5 harg5 x1 (harg3.unread x2) k0_pay3 k (ix2 q j)
        = if n < 2048 * k then x2 (ix4 0 ⟨n / 2048, by omega⟩ q ⟨n % 2048, by omega⟩) else 0 := by
    intro k
    induction k with
    | zero =>
      intro _
      rw [st_k0_t1_zero, if_neg (by omega)]
      pointwise [k0_pay3]
    | succ k ih =>
      intro hk
      have hk' : k < k0_t1_loop.trips := by rw [trips_eq]; omega
      rw [st_k0_t1_succ (k := ⟨k, hk'⟩), trip_eq, pay4_apply _ _ _ _ _ _ n hn hv _
        (chunk_apply arg3 harg3 x2 ⟨k, hk'⟩ ⟨k, by omega⟩ rfl q _), ih (by omega)]
      show _ + (if 2048 * k ≤ n ∧ n < 2048 * k + 2048 then _ else _) = _
      by_cases h1 : n < 2048 * k
      · rw [if_pos h1, if_neg (by omega), if_pos (by omega), add_zero]
      · by_cases h2 : n < 2048 * (k + 1)
        · rw [if_neg h1, if_pos (by omega), if_pos h2, zero_add]
          have : k = n / 2048 := by omega
          subst this; rfl
        · rw [if_neg h1, if_neg (by omega), if_neg h2, add_zero]
  have h := key 59 le_rfl
  rw [if_pos (by omega)] at h
  exact h
end

end Cert.Proof.K
-- ==== Proof.Order.lean ====
/-
  The ranking operation read at an index: entry `j` of row `b` of the ranked values is the row's entry at a position
  `ranked`, and the ranked positions are those positions as words; the ranked values never increase along a row.
-/
module

public import proofs.«01_k».proof.Proof.Box
public import Idealize.ShloMosaic.Lib.SortFacts

@[expose] public section

noncomputable section

namespace Cert.Proof.Order

open Idealize.ShloMosaic

/-- The order of the ranking: greater entries first. -/
def before {N : ℕ} (v : Fin N → EReal) (a b : Fin N) : Bool := decide (v b < v a)

/-- The position that ranks `k`-th. -/
def ranked {N : ℕ} (v : Fin N → EReal) (k : Fin N) : Fin N := sortedFrom (before v) k

/-- The ranked entries never increase. -/
theorem ranked_le {N : ℕ} (v : Fin N → EReal) {i j : Fin N} (h : i < j) : ¬ v (ranked v i) < v (ranked v j) := by
  have := sortedFrom_noInversion (before v) (before v)
    (fun a b h => by simp only [before, decide_eq_true_eq, decide_eq_false_iff_not, not_lt] at *; exact h.le)
    (fun _ _ h => h)
    (fun a b c h1 h2 => by simp only [before, decide_eq_false_iff_not, not_lt] at *; exact h1.trans h2) i j h
  simpa [before, ranked] using this

theorem gt_bit (a b : EReal) :
    (FloatOps.cmpfTotal (F := Ideal) (φ := .f32) .gt a b == 1#1) = decide (b < a) := by
  show (BitVec.ofBool (decide (b < a)) == 1#1) = _
  have h : ∀ p : Bool, (BitVec.ofBool p == 1#1) = p := by decide
  exact h _

variable {N K : ℕ} (x : FVec Ideal (⟨2, ![2, N]⟩ : Shape) .f32) (h : (⟨2, ![2, N]⟩ : Shape).Slices (fun _ => 0) (⟨2, ![2, K]⟩ : Shape))

/-- The leading `K` entries of a row. -/
theorem lead_apply {α : Type} (v : (⟨2, ![2, N]⟩ : Shape).Idx → α) (hK : K ≤ N) (b : Fin 2) (j : Fin K) :
    extractStridedSlice (⟨2, ![2, K]⟩ : Shape) (fun _ => 0) v h (ix2 b j) = v (ix2 b (j.castLE hK)) :=
  congrArg v (funext fun a => by
    match a with
    | ⟨0, _⟩ => exact Fin.ext (Nat.zero_add _)
    | ⟨1, _⟩ => exact Fin.ext (Nat.zero_add _))

theorem along_row (b : Fin 2) (j k : Fin N) :
    Shape.Idx.along (s := (⟨2, ![2, N]⟩ : Shape)) (ix2 b j) (1 : Fin 2) k = ix2 b k := by
  funext a
  match a with
  | ⟨0, _⟩ => rfl
  | ⟨1, _⟩ => rfl

theorem sort_apply {β : Type} (y : (⟨2, ![2, N]⟩ : Shape).Idx → β) (b : Fin 2) (j : Fin N) :
    (Host.sort2 (⟨2, ![2, N]⟩ : Shape) 1 (fun l r => FloatOps.cmpfTotal (F := Ideal) (φ := .f32) .gt l.1 r.1) x y).1 (ix2 b j)
        = x (ix2 b (ranked (fun k => x (ix2 b k)) j))
    ∧ (Host.sort2 (⟨2, ![2, N]⟩ : Shape) 1 (fun l r => FloatOps.cmpfTotal (F := Ideal) (φ := .f32) .gt l.1 r.1) x y).2 (ix2 b j)
        = y (ix2 b (ranked (fun k => x (ix2 b k)) j)) := by
  have e : sortedFrom (fun k k' : Fin N => FloatOps.cmpfTotal (F := Ideal) (φ := .f32) .gt
        (x (Shape.Idx.along (s := (⟨2, ![2, N]⟩ : Shape)) (ix2 b j) (1 : Fin 2) k))
        (x (Shape.Idx.along (s := (⟨2, ![2, N]⟩ : Shape)) (ix2 b j) (1 : Fin 2) k')) == 1#1) j
      = ranked (fun k => x (ix2 b k)) j := by
    unfold ranked before
    congr 1
    funext k k'
    rw [along_row, along_row]
    exact gt_bit _ _
  unfold Host.sort2
  rw [dif_pos (show 1 < (⟨2, ![2, N]⟩ : Shape).rank from Nat.lt_succ_self 1)]
  refine ⟨congrArg x ?_, congrArg y ?_⟩ <;>
  exact (along_row b j _).trans (congrArg (fun k => (ix2 b k : (⟨2, ![2, N]⟩ : Shape).Idx)) e)

theorem topK_val (hK : K ≤ N) (b : Fin 2) (j : Fin K) :
    (Host.topK (⟨2, ![2, K]⟩ : Shape) 1 (FloatOps.cmpfTotal (F := Ideal) (φ := .f32) .gt) x h).1 (ix2 b j)
      = x (ix2 b (ranked (fun k => x (ix2 b k)) (j.castLE hK))) :=
  (lead_apply h _ hK b j).trans (sort_apply x (fun i => if hd : 1 < (⟨2, ![2, N]⟩ : Shape).rank then
    iotaInDim (⟨2, ![2, N]⟩ : Shape) 32 ⟨1, hd⟩ i else 0#32) b _).1

theorem topK_idx (hK : K ≤ N) (b : Fin 2) (j : Fin K) :
    (Host.topK (⟨2, ![2, K]⟩ : Shape) 1 (FloatOps.cmpfTotal (F := Ideal) (φ := .f32) .gt) x h).2 (ix2 b j)
      = BitVec.ofNat 32 (ranked (fun k => x (ix2 b k)) (j.castLE hK)).val :=
  (lead_apply h _ hK b j).trans (sort_apply x (fun i => if hd : 1 < (⟨2, ![2, N]⟩ : Shape).rank then
    iotaInDim (⟨2, ![2, N]⟩ : Shape) 32 ⟨1, hd⟩ i else 0#32) b _).2

/-- The two results of the ranking of a row whose entries are `s`. -/
theorem topK_of (hK : K ≤ N) (b : Fin 2) (j : Fin K) (s : Fin N → EReal) (hs : ∀ k, x (ix2 b k) = s k) :
    (Host.topK (⟨2, ![2, K]⟩ : Shape) 1 (FloatOps.cmpfTotal (F := Ideal) (φ := .f32) .gt) x h).1 (ix2 b j) = s (ranked s (j.castLE hK))
    ∧ (Host.topK (⟨2, ![2, K]⟩ : Shape) 1 (FloatOps.cmpfTotal (F := Ideal) (φ := .f32) .gt) x h).2 (ix2 b j)
      = BitVec.ofNat 32 (ranked s (j.castLE hK)).val := by
  have e : (fun k => x (ix2 b k)) = s := funext hs
  rw [topK_val x h hK, topK_idx x h hK, hs, e]
  exact ⟨rfl, rfl⟩

end Cert.Proof.Order
-- ==== Proof.Spec.lean ====
/-
  What both programs compute, entry by entry, from the three arguments: the scores of the 120000 anchors, the ranked
  candidates, their boxes, and the row of the result that a candidate fills.
-/
module

public import proofs.«01_k».proof.Proof.Order

@[expose] public section

noncomputable section

namespace Cert.Proof.Spec

open Idealize.ShloMosaic

variable (a0 : FVec Ideal (⟨4, ![2, 3, 200, 200]⟩ : Shape) .f32) (a1 : FVec Ideal (⟨4, ![2, 12, 200, 200]⟩ : Shape) .f32)
  (a2 : FVec Ideal (⟨3, ![2, 120000, 4]⟩ : Shape) .f32)

/-- The score of anchor `n` of image `b`. -/
def score (b : Fin 2) (n : Fin 120000) : EReal :=
  Ideal.div 1 (1 + Ideal.exp (-(a0 (ix4 b ⟨n.val % 3, by omega⟩ ⟨n.val / 600, by omega⟩ ⟨n.val / 3 % 200, by omega⟩))))

/-- Code `q` of anchor `n`. -/
def code (b : Fin 2) (n : Fin 120000) (q : Fin 4) : EReal :=
  a1 (ix4 b ⟨n.val % 3 * 4 + q.val, by omega⟩ ⟨n.val / 600, by omega⟩ ⟨n.val / 3 % 200, by omega⟩)

/-- The eight numbers of anchor `n`: its codes, then its coordinates. -/
def data (b : Fin 2) (n : Fin 120000) : Box.Data := fun q =>
  if h : q.val < 4 then code a1 b n ⟨q.val, h⟩ else a2 (ix3 b n ⟨q.val - 4, by omega⟩)

/-- The anchor that is candidate `j`; past the last candidate, anchor 0. -/
def anchor (b : Fin 2) (j : ℕ) : Fin 120000 :=
  if h : j < 1000 then Order.ranked (score a0 b) ⟨j, by omega⟩ else ⟨0, by omega⟩

/-- The eight numbers of candidate `j`. -/
def cand (b : Fin 2) (j : ℕ) : Box.Data := data a1 a2 b (anchor a0 b j)

/-- The score of candidate `j`. -/
def value (b : Fin 2) (j : ℕ) : EReal := score a0 b (anchor a0 b j)

/-- Candidate `j` survives the sweep. -/
def keep (b : Fin 2) (j : ℕ) : Prop := Box.keptN (cand a0 a1 a2 b) j

/-- The entry that candidate `j` puts in column `q` of its row of the result. -/
def entry (b : Fin 2) (j : ℕ) (q : Fin 5) : EReal :=
  match q with
  | 0 => Box.x1 (cand a0 a1 a2 b j)
  | 1 => Box.y1 (cand a0 a1 a2 b j)
  | 2 => Box.x2 (cand a0 a1 a2 b j)
  | 3 => Box.y2 (cand a0 a1 a2 b j)
  | 4 => by classical exact if keep a0 a1 a2 b j then value a0 b j else Box.fill

open Classical in
theorem entry_score (b : Fin 2) (j : ℕ) :
    entry a0 a1 a2 b j 4 = if keep a0 a1 a2 b j then value a0 b j else Box.fill := rfl

/-- The values never increase. -/
theorem value_le (b : Fin 2) {i j : ℕ} (h : i < j) (hj : j < 1000) : ¬ value a0 b i < value a0 b j := by
  unfold value anchor
  rw [dif_pos hj, dif_pos (h.trans hj)]
  exact Order.ranked_le _ (by simpa using h)

/-- Every score lies above the fill value. -/
theorem fill_lt_score (b : Fin 2) (n : Fin 120000) : Box.fill < score a0 b n := by
  have h1 : Box.fill < 0 := by
    unfold Box.fill
    simp [Ideal.ofBits, Ideal.ieee, -EReal.coe_mul]
  refine lt_of_lt_of_le h1 ?_
  unfold score
  generalize a0 _ = x
  have h2 : 0 ≤ Ideal.exp (-x) := by
    unfold Ideal.exp
    split
    · exact le_refl _
    · exact le_top
    · exact_mod_cast (Real.exp_pos _).le
  have h3 : (0 : EReal) < 1 + Ideal.exp (-x) := lt_of_lt_of_le zero_lt_one (le_add_of_nonneg_right h2)
  unfold Ideal.div
  rw [if_neg h3.ne', one_mul]
  exact EReal.inv_nonneg_of_nonneg h3.le

theorem fill_lt (b : Fin 2) (j : ℕ) : Box.fill < value a0 b j := fill_lt_score a0 b _

end Cert.Proof.Spec
-- ==== Proof.KRun.lean ====
/-
  The kernel's arrays, entry by entry: what the host operations before the launch hand to it.
-/
module

public import proofs.«01_k».proof.Proof.KIou
public import proofs.«01_k».proof.Proof.KGather
public import proofs.«01_k».proof.Proof.Spec
public import Idealize.ShloMosaic.Lib.StableHlo.ReadAt
public import Idealize.ShloMosaic.Lib.Pipeline.ValueKit

@[expose] public section

noncomputable section

namespace Cert.Proof.K

open Cert.KernelIdeal Cert.KernelIdeal.Gen Cert.Proof
open Idealize.ShloMosaic Idealize.ShloMosaic.TcCoe Idealize.ShloMosaic.WordCmp
open Idealize.SL.Sem

variable (m : (ℓ : Loc nD τ sig) → Buf (Elt Ideal) ℓ) (c : Dev nD)

/-- The score of candidate `j` as the kernel receives it. -/
theorem read_scores (b : Fin 2) (j : Fin 1024) (hj : j.val < 1000) :
    (V m c main_v9 (ix3 b 0 j) : EReal) = Spec.value (m (c, Proc.tc.devRef main_arg0)) b j.val := by
  unfold V V0
  after_reads_at
  rw [dif_pos hj]
  unfold Spec.value Spec.anchor
  rw [dif_pos hj]
  refine (Order.topK_of _ _ (by decide) b _ (Spec.score (m (c, Proc.tc.devRef main_arg0)) b) fun k => ?_).1
  pointwise
  unfold Spec.score
  simp [Ideal.ofBits, Ideal.ieee]

/-- The anchor number of candidate `j` as the kernel receives it. -/
theorem read_index (b : Fin 2) (j : Fin 1024) :
    V m c main_v11 (ix3 b 0 j) = BitVec.ofNat 32 (Spec.anchor (m (c, Proc.tc.devRef main_arg0)) b j.val).val := by
  unfold V V0
  after_reads_at
  unfold Spec.anchor
  split
  · refine (Order.topK_of _ _ (by decide) b _ (Spec.score (m (c, Proc.tc.devRef main_arg0)) b) fun k => ?_).2
    pointwise
    unfold Spec.score
    simp [Ideal.ofBits, Ideal.ieee]
  · rfl

/-- The number in row `q` of anchor `n` as the kernel receives it. -/
theorem read_data (b : Fin 2) (k : Fin 59) (q : Fin 8) (j : Fin 2048) (n : Fin 120000) (hn : n.val = k.val * 2048 + j.val) :
    (V m c main_v18 (ix4 b k q j) : EReal)
      = Spec.data (m (c, Proc.tc.devRef main_arg1)) (m (c, Proc.tc.devRef main_arg2)) b n q := by
  have hlt : k.val * 2048 + j.val < 120000 := hn ▸ n.isLt
  obtain rfl : n = ⟨k.val * 2048 + j.val, hlt⟩ := Fin.ext hn
  unfold V V0
  after_reads_at
  rw [dif_pos (by omega)]
  unfold Spec.data
  split
  · after_reads_at
    rfl
  · after_reads_at

end Cert.Proof.K
-- ==== Proof.KOut.lean ====
/-
  What one grid point of the kernel stores: in the column of the place that candidate `j` goes to, the entry of
  candidate `j`.
-/
module

public import proofs.«01_k».proof.Proof.KRun

@[expose] public section

noncomputable section

namespace Cert.Proof.K

open Cert.KernelIdeal Cert.KernelIdeal.Gen Cert.Proof
open Idealize.ShloMosaic Idealize.ShloMosaic.TcCoe Idealize.ShloMosaic.WordCmp
open Idealize.SL.Sem

/-- The block that the body leaves, at the column of candidate `j`: its corners, then its score or the fill value. -/
theorem out_apply (c : Dev nD) (i : grid0.Coords) (arg1 : Memref sig .tc .vmem S1x1x1024 .f32) (harg1 : arg1.IsWhole)
    (arg2 : Memref sig .tc .vmem S1x1x1024 .i32) (harg2 : arg2.IsWhole)
    (arg3 : Memref sig .tc .vmem S1x59x8x2048 .f32) (harg3 : arg3.IsWhole)
    (arg4 : Memref sig .tc .vmem S1x8x304 .f32) (harg4 : arg4.IsWhole)
    (arg5 : Memref sig .tc .vmem S1024x1024 .f32) (harg5 : arg5.IsWhole)
    (x0 : Vec Ideal S1x1x1024 .f32) (x1 : Vec Ideal S1x1x1024 .i32) (x2 : Vec Ideal S1x59x8x2048 .f32)
    (a0 : FVec Ideal (⟨4, ![2, 3, 200, 200]⟩ : Shape) .f32) (a1 : FVec Ideal (⟨4, ![2, 12, 200, 200]⟩ : Shape) .f32)
    (a2 : FVec Ideal (⟨3, ![2, 120000, 4]⟩ : Shape) .f32) (b : Fin 2)
    (h0 : ∀ j : Fin 1024, j.val < 1000 → (x0 (ix3 0 0 j) : EReal) = Spec.value a0 b j.val)
    (h1 : ∀ j : Fin 1024, x1 (ix3 0 0 j) = BitVec.ofNat 32 (Spec.anchor a0 b j.val).val)
    (h2 : ∀ (k : Fin 59) (q : Fin 8) (j : Fin 2048) (n : Fin 120000), n.val = k.val * 2048 + j.val →
      (x2 (ix4 0 k q j) : EReal) = Spec.data a1 a2 b n q)
    (j : Fin 1024) (hj : j.val < 1000) (r : Fin 304) (hr : Nms.slot (Spec.keep a0 a1 a2 b) 1000 j.val = r.val)
    (q : Fin 8) (hq : q.val < 5) :
    (out0_A_3 c i arg1 harg1 arg2 harg2 arg3 harg3 arg4 harg4 arg5 harg5 x0 x1 x2 (ix3 0 q r) : EReal)
      = Spec.entry a0 a1 a2 b j.val ⟨q.val, hq⟩ := by
  have hz : (![0, 0, 0] : Fin 3 → Nat) = fun _ => 0 := funext fun a => by fin_cases a <;> rfl
  have hG : ∀ (q : Fin 8) (j : Fin 1024), gathered c i arg1 harg1 arg2 harg2 arg3 harg3 arg4 harg4 arg5 harg5 x1 x2 (ix2 q j)
      = Spec.cand a0 a1 a2 b j.val q := by
    intro q j
    have hn := (Spec.anchor a0 b j.val).isLt
    rw [gathered_apply c i arg1 harg1 arg2 harg2 arg3 harg3 arg4 harg4 arg5 harg5 x1 x2 q j _ (by omega) (h1 j)]
    exact h2 _ _ _ _ (by simp only; omega)
  have hr' : Nms.slot (Spec.keep a0 a1 a2 b) 1024 j.val = r.val := by
    rw [← hr]
    unfold Nms.slot
    have hN : ∀ i, 1000 ≤ i → ¬Spec.keep a0 a1 a2 b i := fun i hi h => absurd (Box.keptN_lt h) (by omega)
    rw [Nms.cnt_beyond hN (show 1000 ≤ 1024 by omega)]
  unfold out0_A_3
  rw [View.read_writes_junk_eq_canon, stored, View.canon_unit_zero hz, printed_kept,
    emit_apply _ _ _ (keep7_apply hG arg5) q r j hr']
  obtain ⟨e0, e1, e2, e3⟩ := payload_corner hG (scoreRow arg1 harg1 x0)
    (keep7 arg5 (gathered c i arg1 harg1 arg2 harg2 arg3 harg3 arg4 harg4 arg5 harg5 x1 x2)) j
  have e4 := payload_score hG (scoreRow arg1 harg1 x0)
    (keep7 arg5 (gathered c i arg1 harg1 arg2 harg2 arg3 harg3 arg4 harg4 arg5 harg5 x1 x2)) j
  match q, hq with
  | 0, _ => exact e0
  | 1, _ => exact e1
  | 2, _ => exact e2
  | 3, _ => exact e3
  | 4, _ =>
    refine e4.trans ?_
    have es : scoreRow arg1 harg1 x0 (ix2 0 j) = Spec.value a0 b j.val := by
      rw [scoreRow_eq, ← h0 j hj]
      pointwise [k0_pay2]
    rw [es, keep7_apply hG arg5]
    show _ = Spec.entry a0 a1 a2 b j.val 4
    rw [Spec.entry_score]
    have e : Box.keptN (Spec.cand a0 a1 a2 b) j.val = Spec.keep a0 a1 a2 b j.val := rfl
    rw [e]
    by_cases h : Spec.keep a0 a1 a2 b j.val
    · have e1 : (1 : EReal) - 1 = 0 := by rw [← EReal.coe_one, ← EReal.coe_sub, sub_self, EReal.coe_zero]
      rw [if_pos h, ind_true h, e1, one_mul, zero_mul, add_zero]
    · rw [if_neg h, ind_false h]; simp

end Cert.Proof.K
-- ==== Proof.KArr.lean ====
/-
  The kernel's array after both grid points, and the result of the whole program: row `r` of image `b` is the entry of
  the candidate that goes to place `r`.
-/
module

public import proofs.«01_k».proof.Proof.KOut

@[expose] public section

noncomputable section

namespace Cert.Proof.K

open Cert.KernelIdeal Cert.KernelIdeal.Gen Cert.Proof
open Idealize.ShloMosaic Idealize.ShloMosaic.TcCoe Idealize.ShloMosaic.WordCmp
open Idealize.SL.Sem

variable (m : (ℓ : Loc nD τ sig) → Buf (Elt Ideal) ℓ) (c : Dev nD)

theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)
theorem index2 : ∀ t : Fin cfg0.N, win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)
theorem index3 : ∀ t : Fin cfg0.N, win0_3.index t (0 : Fin 3) = t.val ∧ win0_3.index t (1 : Fin 3) = 0 ∧ win0_3.index t (2 : Fin 3) = 0 :=
  (by decide +kernel : ∀ t : Fin grid0.N, _)

/-- The image of a grid point. -/
def image (t : Fin cfg0.N) : Fin 2 := ⟨t.val, t.isLt⟩

theorem emb0 (t : Fin cfg0.N) (j : Fin 1024) : ((cfg0.win 0).blk t).view.emb (ix3 0 0 j) = ix3 (image t) 0 j := by
  obtain ⟨e0, e1, e2⟩ := index0 t
  funext a; apply Fin.ext
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 1024 + 1 * j.val = j.val; omega

theorem emb1 (t : Fin cfg0.N) (j : Fin 1024) : ((cfg0.win 1).blk t).view.emb (ix3 0 0 j) = ix3 (image t) 0 j := by
  obtain ⟨e0, e1, e2⟩ := index1 t
  funext a; apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 1024 + 1 * j.val = j.val; omega

theorem emb2 (t : Fin cfg0.N) (k : Fin 59) (q : Fin 8) (j : Fin 2048) :
    ((cfg0.win 2).blk t).view.emb (ix4 0 k q j) = ix4 (image t) k q j := by
  obtain ⟨e0, e1, e2, e3⟩ := index2 t
  funext a; apply Fin.ext
  match a with
  | ⟨0, _⟩ => show win0_2.index t (0 : Fin 4) * 1 + 1 * 0 = t.val; omega
  | ⟨1, _⟩ => show win0_2.index t (1 : Fin 4) * 59 + 1 * k.val = k.val; omega
  | ⟨2, _⟩ => show win0_2.index t (2 : Fin 4) * 8 + 1 * q.val = q.val; omega
  | ⟨3, _⟩ => show win0_2.index t (3 : Fin 4) * 2048 + 1 * j.val = j.val; omega

theorem emb3 (t : Fin cfg0.N) (q : Fin 8) (r : Fin 304) :
    ((cfg0.win 3).blk t).view.emb (ix3 0 q r) = ix3 (image t) q r := by
  obtain ⟨e0, e1, e2⟩ := index3 t
  funext a; apply Fin.ext
  match a with
  | ⟨0, _⟩ => show win0_3.index t (0 : Fin 3) * 1 + 1 * 0 = t.val; omega
  | ⟨1, _⟩ => show win0_3.index t (1 : Fin 3) * 8 + 1 * q.val = q.val; omega
  | ⟨2, _⟩ => show win0_3.index t (2 : Fin 3) * 304 + 1 * r.val = r.val; omega

/-- What grid point `t` leaves, at the column of candidate `j`. -/
theorem outsAt_apply (t : Fin cfg0.N) (j : Fin 1024) (hj : j.val < 1000) (r : Fin 304)
    (hr : Nms.slot (Spec.keep (m (c, Proc.tc.devRef main_arg0)) (m (c, Proc.tc.devRef main_arg1)) (m (c, Proc.tc.devRef main_arg2)) (image t)) 1000 j.val = r.val)
    (q : Fin 8) (hq : q.val < 5) :
    (outsAt0 m c t (ix3 0 q r) : EReal)
      = Spec.entry (m (c, Proc.tc.devRef main_arg0)) (m (c, Proc.tc.devRef main_arg1)) (m (c, Proc.tc.devRef main_arg2)) (image t) j.val ⟨q.val, hq⟩ := by
  unfold outsAt0
  refine out_apply c _ _ _ _ _ _ _ _ _ _ _ _ _ _ _ _ _ (image t) ?_ ?_ ?_ j hj r hr q hq
  · intro j hj
    rw [← read_scores m c (image t) j hj]
    show V m c main_v9 (((cfg0.win 0).blk t).view.emb (ix3 0 0 j)) = _
    rw [emb0]
  · intro j
    rw [← read_index m c (image t) j]
    show V m c main_v11 (((cfg0.win 1).blk t).view.emb (ix3 0 0 j)) = _
    rw [emb1]
  · intro k q j n hn
    rw [← read_data m c (image t) k q j n hn]
    show V m c main_v18 (((cfg0.win 2).blk t).view.emb (ix4 0 k q j)) = _
    rw [emb2]

/-- What every grid point's block has at every index, the launch's array has after the run. -/
theorem array_of (P : S2x8x304.Idx → EReal → Prop)
    (h : ∀ (t : Fin cfg0.N) (q : Fin 8) (r : Fin 304), P (ix3 (image t) q r) (outsAt0 m c t (ix3 0 q r))) (i : S2x8x304.Idx) :
    P i ((dats m 0 c).arrAt 3 cfg0.N i) := by
  refine (dats m 0 c).arrAt_forall_of_covers 3 P (by decide +kernel) (fun t hf y => ?_) i
  obtain ⟨z, q, r, rfl⟩ : ∃ (z : Fin 1) (q : Fin 8) (r : Fin 304), y = ix3 z q r := ⟨y 0, y 1, y 2, eq_ix3 y⟩
  obtain rfl : z = 0 := Subsingleton.elim _ _
  blk_simp
  have e : (win0_3.blk t).view.emb (ix3 0 q r) = ix3 (image t) q r := emb3 t q r
  rw [e, after0_3]
  exact h t q r

/-- The launch's array after the run, at the column of candidate `j`. -/
theorem array_apply (b : Fin 2) (j : Fin 1024) (hj : j.val < 1000) (r : Fin 304)
    (hr : Nms.slot (Spec.keep (m (c, Proc.tc.devRef main_arg0)) (m (c, Proc.tc.devRef main_arg1)) (m (c, Proc.tc.devRef main_arg2)) b) 1000 j.val = r.val)
    (q : Fin 8) (hq : q.val < 5) :
    ((dats m 0 c).arrAt 3 cfg0.N (ix3 b q r) : EReal)
      = Spec.entry (m (c, Proc.tc.devRef main_arg0)) (m (c, Proc.tc.devRef main_arg1)) (m (c, Proc.tc.devRef main_arg2)) b j.val ⟨q.val, hq⟩ := by
  refine array_of m c (fun i v => i = ix3 b q r → v = Spec.entry (m (c, Proc.tc.devRef main_arg0)) (m (c, Proc.tc.devRef main_arg1)) (m (c, Proc.tc.devRef main_arg2)) b j.val ⟨q.val, hq⟩)
    (fun t q' r' hi => ?_) (ix3 b q r) rfl
  obtain rfl : image t = b := congrFun hi 0
  obtain rfl : q' = q := congrFun hi 1
  obtain rfl : r' = r := congrFun hi 2
  exact outsAt_apply m c t j hj r' hr q' hq

/-- The result as the lines after the launch leave it. -/
theorem result_apply (b : Fin 2) (j : Fin 1024) (hj : j.val < 1000) (r : Fin 300)
    (hr : Nms.slot (Spec.keep (m (c, Proc.tc.devRef main_arg0)) (m (c, Proc.tc.devRef main_arg1)) (m (c, Proc.tc.devRef main_arg2)) b) 1000 j.val = r.val)
    (q : Fin 5) :
    (Pipeline.afterTail₀ cfgs (dats m) 0 (V0 m) [hostOps1] c main_v25 (ix3 b r q) : EReal)
      = Spec.entry (m (c, Proc.tc.devRef main_arg0)) (m (c, Proc.tc.devRef main_arg1)) (m (c, Proc.tc.devRef main_arg2)) b j.val q := by
  have ha : ∀ (q : Fin 5), Pipeline.withArrays spec0 c (V0 m c) (fun w => (dats m 0 c).arrAt w cfg0.N) (Proc.tc.devRef main_v19)
      (ix3 b ⟨q.val, by omega⟩ ⟨r.val, by omega⟩) = Spec.entry (m (c, Proc.tc.devRef main_arg0)) (m (c, Proc.tc.devRef main_arg1)) (m (c, Proc.tc.devRef main_arg2)) b j.val q := by
    intro q
    rw [Pipeline.withArrays_arr spec0 (by decide) c (V0 m c) _ 3]
    exact array_apply m c b j hj ⟨r.val, by omega⟩ hr ⟨q.val, by omega⟩ q.isLt
  unfold Pipeline.afterTail₀
  rw [← ha q]
  generalize Pipeline.withArrays spec0 c (V0 m c) (fun w => (dats m 0 c).arrAt w cfg0.N) = W
  after_reads_at
  split
  · rfl
  · have hq : q = 4 := Fin.ext (by have := q.isLt; omega)
    subst hq
    rfl

end Cert.Proof.K
-- ==== Proof.Gather.lean ====
/-
  Taking rows of four numbers by row number, image by image: what the reference's gathers read.
-/
module

public import Idealize.ShloMosaic.Lib.ValueIdxCore
public import Idealize.ShloMosaic.Lib.StableHlo.ReadAt
public import Idealize.ShloMosaic.Lib.WordCmp

@[expose] public section

noncomputable section

namespace Cert.Proof.Gather

open Idealize.ShloMosaic

variable {α : Type} {N n : ℕ}

/-- The dimension numbers of such a gather: axis 0 counts the images, axis 1 of the table the rows. -/
abbrev rowDims (N n : ℕ) (wf : GatherDims.WF ⟨3, ![2, N, 4]⟩ ⟨3, ![2, n, 1]⟩ ⟨3, ![2, n, 4]⟩ [2] [1] [0] [1] [0] 2 ![1, 1, 4]) :
    GatherDims ⟨3, ![2, N, 4]⟩ ⟨3, ![2, n, 1]⟩ ⟨3, ![2, n, 4]⟩ where
  offsetDims := [2]
  collapsedSliceDims := [1]
  operandBatchingDims := [0]
  startIndicesBatchingDims := [0]
  startIndexMap := [1]
  indexVectorDim := 2
  sliceSizes := ![1, 1, 4]
  wf := wf

/-- Where the row number read is `k`, the result is row `k` of the table. -/
theorem gather_apply (wf : GatherDims.WF ⟨3, ![2, N, 4]⟩ ⟨3, ![2, n, 1]⟩ ⟨3, ![2, n, 4]⟩ [2] [1] [0] [1] [0] 2 ![1, 1, 4])
    (x : (⟨3, ![2, N, 4]⟩ : Shape).Idx → α) (idx : IVec ⟨3, ![2, n, 1]⟩ 32) (b : Fin 2) (j : Fin n) (q : Fin 4) (k : Fin N)
    (hk : (idx (ix3 b j 0)).toInt = k.val) :
    Host.gather (rowDims N n wf) x idx (ix3 b j q) = x (ix3 b k q) := by
  unfold Host.gather
  refine congrArg x (funext fun a => Fin.ext ?_)
  match a with
  | ⟨0, _⟩ =>
    show (rowDims N n wf).start (ix3 b j q) idx 0 + (rowDims N n wf).batchCoord (ix3 b j q) 0
      + (rowDims N n wf).offCoord (ix3 b j q) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show (rowDims N n wf).start (ix3 b j q) idx 1 + (rowDims N n wf).batchCoord (ix3 b j q) 1
      + (rowDims N n wf).offCoord (ix3 b j q) 1 = k.val
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims N n wf).startIndexMap from List.mem_singleton.mpr rfl)]
    have hsi : (rowDims N n wf).siIdx (ix3 b j q) ⟨List.idxOf (1 : Fin 3) (rowDims N n wf).startIndexMap,
        List.idxOf_lt_length_iff.2 (List.mem_singleton.mpr rfl)⟩ = ix3 b j 0 := by
      funext a; refine Fin.ext ?_
      match a with
      | ⟨0, _⟩ => rfl
      | ⟨1, _⟩ => rfl
      | ⟨2, _⟩ => rfl
    rw [hsi, hk]
    have := k.isLt
    show min ((k.val : Int)).toNat (N - 1) = k.val
    omega
  | ⟨2, _⟩ =>
    show (rowDims N n wf).start (ix3 b j q) idx 2 + (rowDims N n wf).batchCoord (ix3 b j q) 2
      + (rowDims N n wf).offCoord (ix3 b j q) 2 = q.val
    have hm : (2 : Fin 3) ∉ (rowDims N n wf).startIndexMap := by simp
    rw [GatherDims.batchCoord_eq_zero _ _ _ (fun h => by simp at h)]
    unfold GatherDims.start GatherDims.offCoord
    rw [dif_neg hm, dif_pos ((GatherDims.mem_sKept _ _).2 ⟨by simp, by simp⟩)]
    simp only [Nat.zero_add, Nat.add_zero]
    rfl

/-- A row number below `2 ^ 31` is not below zero, so that adding the table's length to the numbers below zero leaves it. -/
theorem wrap (w : BitVec 32) (k : ℕ) (hk : k < 2 ^ 31) (v : BitVec 32) (hv : v = BitVec.ofNat 32 k) :
    (Scalar.select (IntOp.cmpi .slt v 0#32) w v).toInt = (k : Int) := by
  subst hv
  have h : (BitVec.ofNat 32 k).toInt = (k : Int) := WordCmp.toInt_ofNat_of_lt hk
  have e : IntOp.cmpi .slt (BitVec.ofNat 32 k) 0#32 = 0#1 := by
    rw [WordCmp.cmpi_slt_eq, h, decide_eq_false (by simp)]
    rfl
  rw [e]
  exact h

end Cert.Proof.Gather
-- ==== Proof.RefVal.lean ====
/-
  The reference's arrays before the loop, stretch by stretch, entry by entry.
-/
module

public import proofs.«01_k».proof.Proof.RefFrame
public import proofs.«01_k».proof.Proof.Spec
public import proofs.«01_k».proof.Proof.Gather
public import Idealize.ShloMosaic.Lib.StableHlo.ReadAt

@[expose] public section

noncomputable section

namespace Cert.Proof.Ref

open Cert.ReferenceIdeal Cert.ReferenceIdeal.Gen Cert.ReferenceIdeal.Value
open Idealize.ShloMosaic Idealize.ShloMosaic.TcCoe Idealize.ShloMosaic.StableHlo
open Idealize.ShloMosaic.WordCmp
open Idealize.SL.Sem

variable (W : Valuation τ sig (Elt Ideal))

theorem read_score (b : Fin 2) (n : Fin 120000) :
    (after hostOps0 W (Proc.tc.devRef main_v0) (ix2 b n) : EReal) = Spec.score (W (Proc.tc.devRef main_arg0)) b n := by
  after_reads_at
  unfold Spec.score
  simp [Ideal.ofBits, Ideal.ieee]

theorem read_code (b : Fin 2) (n : Fin 120000) (q : Fin 4) :
    (after hostOps0_1 W (Proc.tc.devRef main_v3) (ix3 b n q) : EReal) = Spec.code (W (Proc.tc.devRef main_arg1)) b n q := by
  after_reads_at
  rfl

theorem read_top (b : Fin 2) (j : Fin 1000) (s : Fin 120000 → EReal)
    (hs : ∀ n, (W (Proc.tc.devRef main_v0) (ix2 b n) : EReal) = s n) :
    (after hostOps0_1 W (Proc.tc.devRef main_values) (ix2 b j) : EReal) = s (Order.ranked s (j.castLE (by decide)))
    ∧ after hostOps0_1 W (Proc.tc.devRef main_indices) (ix2 b j) = BitVec.ofNat 32 (Order.ranked s (j.castLE (by decide))).val := by
  constructor
  · after_reads_at
    exact (Order.topK_of _ _ (by decide) b j s hs).1
  · after_reads_at
    exact (Order.topK_of _ _ (by decide) b j s hs).2

theorem read_take (b : Fin 2) (j : Fin 1000) (q : Fin 4) (n : Fin 120000)
    (hn : W (Proc.tc.devRef main_indices) (ix2 b j) = BitVec.ofNat 32 n.val) :
    (after hostOps0_2 W (Proc.tc.devRef main_v4) (ix3 b j q) : EReal) = W (Proc.tc.devRef main_v3) (ix3 b n q) := by
  after_reads_at
  refine Gather.gather_apply _ _ _ b j q n ?_
  pointwise
  exact Gather.wrap _ n.val (by omega) _ hn

theorem read_take' (b : Fin 2) (j : Fin 1000) (q : Fin 4) (n : Fin 120000)
    (hn : W (Proc.tc.devRef main_indices) (ix2 b j) = BitVec.ofNat 32 n.val) :
    (after hostOps0_3 W (Proc.tc.devRef main_v5) (ix3 b j q) : EReal) = W (Proc.tc.devRef main_arg2) (ix3 b n q) := by
  after_reads_at
  refine Gather.gather_apply _ _ _ b j q n ?_
  pointwise
  exact Gather.wrap _ n.val (by omega) _ hn

theorem div_one (x : EReal) : Ideal.div x 1 = x := by
  unfold Ideal.div
  rw [if_neg one_ne_zero]
  simp

/-- The four corners before they are moved into the image. -/
theorem read_corners (b : Fin 2) (j : Fin 1000) (d : Box.Data)
    (hc : ∀ q : Fin 4, (W (Proc.tc.devRef main_v4) (ix3 b j q) : EReal) = d ⟨q.val, by omega⟩)
    (ha : ∀ q : Fin 4, (W (Proc.tc.devRef main_v5) (ix3 b j q) : EReal) = d ⟨q.val + 4, by omega⟩) :
    Box.clamp (after hostOps0_4 W (Proc.tc.devRef main_v6_0) (ix2 b j)) = Box.x1 d
    ∧ Box.clamp (after hostOps0_4 W (Proc.tc.devRef main_v6_1) (ix2 b j)) = Box.y1 d
    ∧ Box.clamp (after hostOps0_4 W (Proc.tc.devRef main_v6_2) (ix2 b j)) = Box.x2 d
    ∧ Box.clamp (after hostOps0_4 W (Proc.tc.devRef main_v6_3) (ix2 b j)) = Box.y2 d := by
  refine ⟨?_, ?_, ?_, ?_⟩
  all_goals
    after_reads_at
    rw [div_one, div_one, hc, hc, ha, ha]
    rfl

section Boxes

variable (b : Fin 2)

/-- The four corners moved into the image, and whether the box is not empty. -/
theorem read_boxes (j : Fin 1000) (d : Box.Data)
    (h1 : Box.clamp (W (Proc.tc.devRef main_v6_0) (ix2 b j)) = Box.x1 d)
    (h2 : Box.clamp (W (Proc.tc.devRef main_v6_1) (ix2 b j)) = Box.y1 d)
    (h3 : Box.clamp (W (Proc.tc.devRef main_v6_2) (ix2 b j)) = Box.x2 d)
    (h4 : Box.clamp (W (Proc.tc.devRef main_v6_3) (ix2 b j)) = Box.y2 d) :
    (after hostOps0_5 W (Proc.tc.devRef main_v10) (ix2 b j) : EReal) = Box.x1 d
    ∧ (after hostOps0_5 W (Proc.tc.devRef main_v14) (ix2 b j) : EReal) = Box.y1 d
    ∧ (after hostOps0_5 W (Proc.tc.devRef main_v18) (ix2 b j) : EReal) = Box.x2 d
    ∧ (after hostOps0_5 W (Proc.tc.devRef main_v22) (ix2 b j) : EReal) = Box.y2 d
    ∧ (after hostOps0_5 W (Proc.tc.devRef main_v33) (ix2 b j) = 1#1 ↔ Box.full d) := by
  have hcl : ∀ x : EReal, min (max x 0) Box.edge = Box.clamp x := fun x => by
    unfold Box.clamp; rw [max_comm, min_comm]
  refine ⟨?_, ?_, ?_, ?_, ?_⟩
  · after_reads_at; exact (hcl _).trans h1
  · after_reads_at; exact (hcl _).trans h2
  · after_reads_at; exact (hcl _).trans h3
  · after_reads_at; exact (hcl _).trans h4
  · after_reads_at
    rw [andi_ofBool, ← Bool.decide_and, ofBool_decide_eq_one_iff]
    rw [hcl, hcl, hcl, hcl, h1, h2, h3, h4]
    rfl

/-- The overlap of two boxes, as a share of their union. -/
theorem read_share (i j : Fin 1000) (d e : Box.Data)
    (h1 : (W (Proc.tc.devRef main_v10) (ix2 b i) : EReal) = Box.x1 d)
    (h2 : (W (Proc.tc.devRef main_v14) (ix2 b i) : EReal) = Box.y1 d)
    (h3 : (W (Proc.tc.devRef main_v18) (ix2 b i) : EReal) = Box.x2 d)
    (h4 : (W (Proc.tc.devRef main_v22) (ix2 b i) : EReal) = Box.y2 d)
    (g1 : (W (Proc.tc.devRef main_v10) (ix2 b j) : EReal) = Box.x1 e)
    (g2 : (W (Proc.tc.devRef main_v14) (ix2 b j) : EReal) = Box.y1 e)
    (g3 : (W (Proc.tc.devRef main_v18) (ix2 b j) : EReal) = Box.x2 e)
    (g4 : (W (Proc.tc.devRef main_v22) (ix2 b j) : EReal) = Box.y2 e) :
    (after hostOps0_6 W (Proc.tc.devRef main_v34) (ix3 b i j) : EReal)
      = Ideal.div (Box.inter d e) (Box.area d + Box.area e - Box.inter d e) := by
  after_reads_at
  rw [h1, h2, h3, h4, g1, g2, g3, g4]
  rfl

end Boxes

/-- What the loop starts from. -/
theorem read_start :
    (after hostOps0_7 W (Proc.tc.devRef main_v36_0) = W (Proc.tc.devRef main_v34))
    ∧ (∀ j : Fin 1000, after hostOps0_7 W (Proc.tc.devRef main_v36_1) (ix1 j) = BitVec.ofNat 32 j.val)
    ∧ after hostOps0_7 W (Proc.tc.devRef main_v36_3) = constantI S_ 32 0#32
    ∧ after hostOps0_7 W (Proc.tc.devRef main_v36_4) = W (Proc.tc.devRef main_v33) := by
  refine ⟨?_, fun j => ?_, ?_, ?_⟩
  · after_reads_simp; rfl
  · after_reads_at; rfl
  · after_reads_simp; rfl
  · after_reads_simp; rfl

end Cert.Proof.Ref
-- ==== Proof.RefEntry.lean ====
/-
  What the reference's loop starts from: the candidates' scores, boxes and overlaps.
-/
module

public import proofs.«01_k».proof.Proof.RefVal

@[expose] public section

noncomputable section

namespace Cert.Proof.Ref

open Cert.ReferenceIdeal Cert.ReferenceIdeal.Gen Cert.ReferenceIdeal.Value
open Idealize.ShloMosaic Idealize.ShloMosaic.TcCoe Idealize.ShloMosaic.StableHlo
open Idealize.SL.Sem

/-- The loop's entry of image `b`, read: `E` holds candidate `j`'s score, corners and validity, and every pair's share. -/
structure Entry (a0 : FVec Ideal (⟨4, ![2, 3, 200, 200]⟩ : Shape) .f32) (a1 : FVec Ideal (⟨4, ![2, 12, 200, 200]⟩ : Shape) .f32)
    (a2 : FVec Ideal (⟨3, ![2, 120000, 4]⟩ : Shape) .f32) (E : Valuation τ sig (Elt Ideal)) : Prop where
  scores : ∀ (b : Fin 2) (j : Fin 1000), (E (Proc.tc.devRef main_values) (ix2 b j) : EReal) = Spec.value a0 b j.val
  x1 : ∀ (b : Fin 2) (j : Fin 1000), (E (Proc.tc.devRef main_v10) (ix2 b j) : EReal) = Box.x1 (Spec.cand a0 a1 a2 b j.val)
  y1 : ∀ (b : Fin 2) (j : Fin 1000), (E (Proc.tc.devRef main_v14) (ix2 b j) : EReal) = Box.y1 (Spec.cand a0 a1 a2 b j.val)
  x2 : ∀ (b : Fin 2) (j : Fin 1000), (E (Proc.tc.devRef main_v18) (ix2 b j) : EReal) = Box.x2 (Spec.cand a0 a1 a2 b j.val)
  y2 : ∀ (b : Fin 2) (j : Fin 1000), (E (Proc.tc.devRef main_v22) (ix2 b j) : EReal) = Box.y2 (Spec.cand a0 a1 a2 b j.val)
  share : ∀ (b : Fin 2) (i j : Fin 1000), (E (Proc.tc.devRef main_v36_0) (ix3 b i j) : EReal)
    = Ideal.div (Box.inter (Spec.cand a0 a1 a2 b i.val) (Spec.cand a0 a1 a2 b j.val))
        (Box.area (Spec.cand a0 a1 a2 b i.val) + Box.area (Spec.cand a0 a1 a2 b j.val)
          - Box.inter (Spec.cand a0 a1 a2 b i.val) (Spec.cand a0 a1 a2 b j.val))
  place : ∀ j : Fin 1000, E (Proc.tc.devRef main_v36_1) (ix1 j) = BitVec.ofNat 32 j.val
  count : E (Proc.tc.devRef main_v36_3) = constantI S_ 32 0#32
  full : ∀ (b : Fin 2) (j : Fin 1000), E (Proc.tc.devRef main_v36_4) (ix2 b j) = 1#1 ↔ Box.full (Spec.cand a0 a1 a2 b j.val)

variable (W : Valuation τ sig (Elt Ideal))

/-- The contents after each of the first seven stretches. -/
abbrev U1 := after hostOps0 W
abbrev U2 := after hostOps0_1 (U1 W)
abbrev U3 := after hostOps0_2 (U2 W)
abbrev U4 := after hostOps0_3 (U3 W)
abbrev U5 := after hostOps0_4 (U4 W)
abbrev U6 := after hostOps0_5 (U5 W)
abbrev U7 := after hostOps0_6 (U6 W)

/-- The ranked scores and their anchors' numbers. -/
theorem ranked_scores (b : Fin 2) (j : Fin 1000) :
    (U2 W (Proc.tc.devRef main_values) (ix2 b j) : EReal) = Spec.value (W (Proc.tc.devRef main_arg0)) b j.val
    ∧ U2 W (Proc.tc.devRef main_indices) (ix2 b j) = BitVec.ofNat 32 (Spec.anchor (W (Proc.tc.devRef main_arg0)) b j.val).val := by
  have h := read_top (U1 W) b j (Spec.score (W (Proc.tc.devRef main_arg0)) b) (read_score W b)
  unfold Spec.value Spec.anchor
  rw [dif_pos j.isLt]
  exact h

/-- The codes and the coordinates of candidate `j`. -/
theorem cand_codes (b : Fin 2) (j : Fin 1000) (q : Fin 4) :
    (U4 W (Proc.tc.devRef main_v4) (ix3 b j q) : EReal)
      = Spec.cand (W (Proc.tc.devRef main_arg0)) (W (Proc.tc.devRef main_arg1)) (W (Proc.tc.devRef main_arg2)) b j.val ⟨q.val, by omega⟩ := by
  have e : U4 W (Proc.tc.devRef main_v4) = U3 W (Proc.tc.devRef main_v4) := after_of_writes_sub _ _ hostOps0_3_writes (by decide)
  have e1 : U1 W (Proc.tc.devRef main_arg1) = W (Proc.tc.devRef main_arg1) := after_of_writes_sub _ _ hostOps0_writes (by decide)
  refine (congrFun e _).trans ((read_take (U2 W) b j q _ (ranked_scores W b j).2).trans ((read_code (U1 W) b _ q).trans ?_))
  rw [e1]
  unfold Spec.cand Spec.data
  rw [dif_pos q.isLt]

theorem cand_coords (b : Fin 2) (j : Fin 1000) (q : Fin 4) :
    (U4 W (Proc.tc.devRef main_v5) (ix3 b j q) : EReal)
      = Spec.cand (W (Proc.tc.devRef main_arg0)) (W (Proc.tc.devRef main_arg1)) (W (Proc.tc.devRef main_arg2)) b j.val ⟨q.val + 4, by omega⟩ := by
  have e : U3 W (Proc.tc.devRef main_indices) = U2 W (Proc.tc.devRef main_indices) := after_of_writes_sub _ _ hostOps0_2_writes (by decide)
  have e1 : U3 W (Proc.tc.devRef main_arg2) = W (Proc.tc.devRef main_arg2) :=
    (after_of_writes_sub _ _ hostOps0_2_writes (by decide)).trans
      ((after_of_writes_sub _ _ hostOps0_1_writes (by decide)).trans (after_of_writes_sub _ _ hostOps0_writes (by decide)))
  refine (read_take' (U3 W) b j q _ ((congrFun e _).trans (ranked_scores W b j).2)).trans ?_
  rw [e1]
  unfold Spec.cand Spec.data
  rw [dif_neg (by simp)]
  rfl

/-- Candidate `j`'s box and whether it is whole. -/
theorem cand_box (b : Fin 2) (j : Fin 1000) (d : Box.Data)
    (hd : d = Spec.cand (W (Proc.tc.devRef main_arg0)) (W (Proc.tc.devRef main_arg1)) (W (Proc.tc.devRef main_arg2)) b j.val) :
    (U6 W (Proc.tc.devRef main_v10) (ix2 b j) : EReal) = Box.x1 d ∧ (U6 W (Proc.tc.devRef main_v14) (ix2 b j) : EReal) = Box.y1 d
    ∧ (U6 W (Proc.tc.devRef main_v18) (ix2 b j) : EReal) = Box.x2 d ∧ (U6 W (Proc.tc.devRef main_v22) (ix2 b j) : EReal) = Box.y2 d
    ∧ (U6 W (Proc.tc.devRef main_v33) (ix2 b j) = 1#1 ↔ Box.full d) := by
  subst hd
  obtain ⟨c1, c2, c3, c4⟩ := read_corners (U4 W) b j _ (cand_codes W b j) (cand_coords W b j)
  exact read_boxes (U5 W) b j _ c1 c2 c3 c4

/-- The loop's entry. -/
theorem entry : Entry (W (Proc.tc.devRef main_arg0)) (W (Proc.tc.devRef main_arg1)) (W (Proc.tc.devRef main_arg2)) (afterL preI W) := by
  have hb := fun b j => cand_box W b j _ rfl
  obtain ⟨s1, s2, s3, s4⟩ := read_start (U7 W)
  have k7 : ∀ r : Ref sig .tc, r ∉ hostOps0_6_W → r ∉ hostOps0_7_W →
      afterL preI W (Proc.tc.devRef r) = U6 W (Proc.tc.devRef r) := fun r h6 h7 =>
    (after_of_writes_sub _ _ hostOps0_7_writes h7).trans (after_of_writes_sub _ _ hostOps0_6_writes h6)
  have k6 : ∀ r : Ref sig .tc, r ∉ hostOps0_2_W → r ∉ hostOps0_3_W → r ∉ hostOps0_4_W → r ∉ hostOps0_5_W →
      U6 W (Proc.tc.devRef r) = U2 W (Proc.tc.devRef r) := fun r h2 h3 h4 h5 =>
    (after_of_writes_sub _ _ hostOps0_5_writes h5).trans ((after_of_writes_sub _ _ hostOps0_4_writes h4).trans
      ((after_of_writes_sub _ _ hostOps0_3_writes h3).trans (after_of_writes_sub _ _ hostOps0_2_writes h2)))
  refine ⟨fun b j => ?_, fun b j => ?_, fun b j => ?_, fun b j => ?_, fun b j => ?_, fun b i j => ?_, s2, s3, fun b j => ?_⟩
  · rw [k7 _ (by decide) (by decide), k6 _ (by decide) (by decide) (by decide) (by decide)]
    exact (ranked_scores W b j).1
  · rw [k7 _ (by decide) (by decide)]; exact (hb b j).1
  · rw [k7 _ (by decide) (by decide)]; exact (hb b j).2.1
  · rw [k7 _ (by decide) (by decide)]; exact (hb b j).2.2.1
  · rw [k7 _ (by decide) (by decide)]; exact (hb b j).2.2.2.1
  · refine (congrFun s1 (ix3 b i j)).trans ?_
    exact read_share (U6 W) b i j _ _ (hb b i).1 (hb b i).2.1 (hb b i).2.2.1 (hb b i).2.2.2.1
      (hb b j).1 (hb b j).2.1 (hb b j).2.2.1 (hb b j).2.2.2.1
  · have e : U7 W (Proc.tc.devRef main_v33) = U6 W (Proc.tc.devRef main_v33) := after_of_writes_sub _ _ hostOps0_6_writes (by decide)
    have s4' : afterL preI W (Proc.tc.devRef main_v36_4) = U6 W (Proc.tc.devRef main_v33) := s4.trans e
    rw [s4']
    exact (hb b j).2.2.2.2

end Cert.Proof.Ref
-- ==== Proof.RefLoop.lean ====
/-
  The reference's loop: after `k` trips the mask holds the boxes that the first `k` turns of the sweep leave.
-/
module

public import proofs.«01_k».proof.Proof.RefEntry
public import proofs.«01_k».proof.Proof.Gather

@[expose] public section

noncomputable section

namespace Cert.Proof.Ref

open Cert.ReferenceIdeal Cert.ReferenceIdeal.Gen Cert.ReferenceIdeal.Value
open Idealize.ShloMosaic Idealize.ShloMosaic.TcCoe Idealize.ShloMosaic.StableHlo
open Idealize.SL.Sem

variable (V : Valuation τ sig (Elt Ideal))

/-- A row of the mask, cut out at the trip's number. -/
theorem row_mask {k : Fin 1000} (x : S2x1000.Idx → BitVec 1) (start : Fin 2 → Int) (h : S2x1000.Slices (fun _ => 0) S2x1)
    (h0 : start 0 = 0) (h1 : start 1 = k.val) (b : Fin 2) : Host.dynamicSlice S2x1 x start h (ix2 b 0) = x (ix2 b k) := by
  have e0 := Host.clampedStart_of_le (s := S2x1000) (t := S2x1) h.1 start 0 0 h0 (Nat.le_of_ble_eq_true rfl)
  have e1 := Host.clampedStart_of_le (s := S2x1000) (t := S2x1) h.1 start 1 k.val h1 (by show k.val + 1 ≤ 1000; omega)
  pointwise
  simp only [e0, e1, Nat.zero_add]

/-- A row of the shares, cut out at the trip's number. -/
theorem row_share {k : Fin 1000} (x : S2x1000x1000.Idx → EReal) (start : Fin 3 → Int) (h : S2x1000x1000.Slices (fun _ => 0) S2x1x1000)
    (h0 : start 0 = 0) (h1 : start 1 = k.val) (h2 : start 2 = 0) (b : Fin 2) (j : Fin 1000) :
    Host.dynamicSlice S2x1x1000 x start h (ix3 b 0 j) = x (ix3 b k j) := by
  have e0 := Host.clampedStart_of_le (s := S2x1000x1000) (t := S2x1x1000) h.1 start 0 0 h0 (Nat.le_of_ble_eq_true rfl)
  have e1 := Host.clampedStart_of_le (s := S2x1000x1000) (t := S2x1x1000) h.1 start 1 k.val h1 (by show k.val + 1 ≤ 1000; omega)
  have e2 := Host.clampedStart_of_le (s := S2x1000x1000) (t := S2x1x1000) h.1 start 2 0 h2 (Nat.le_of_ble_eq_true rfl)
  pointwise
  simp only [e0, e1, e2, Nat.zero_add]

/-- The trip's number, as the slices take it: it is not negative, so nothing is added. -/
theorem turn (k : Fin 1000) :
    (Scalar.select (IntOp.cmpi .slt (BitVec.ofNat 32 k.val) 0#32) (BitVec.ofNat 32 k.val + 1000#32) (BitVec.ofNat 32 k.val)).toInt
      = k.val :=
  Gather.wrap _ k.val (by omega) _ rfl

/-- The mask's bit: kept, and not struck out. -/
theorem mask_bit (x y : BitVec 1) (p q : Prop) [Decidable p] [Decidable q] :
    IntOp.andi x (~~~IntOp.andi (IntOp.andi y (BitVec.ofBool (decide p))) (BitVec.ofBool (decide q))) = 1#1 ↔
      x = 1#1 ∧ ¬(q ∧ y = 1#1 ∧ p) := by
  have key : ∀ (x y : BitVec 1) (u v : Bool), IntOp.andi x (~~~IntOp.andi (IntOp.andi y (BitVec.ofBool u)) (BitVec.ofBool v)) = 1#1 ↔
      x = 1#1 ∧ ¬(v = true ∧ y = 1#1 ∧ u = true) := by decide
  rw [key, decide_eq_true_iff, decide_eq_true_iff]

/-- One trip: the mask of box `j` is cleared when box `k`, the trip's own, is in the mask, comes before it and overlaps it. -/
theorem step_mask (k : Fin 1000) (hk : V (Proc.tc.devRef main_v36_3) = constantI S_ 32 (BitVec.ofNat 32 k.val))
    (hp : ∀ j : Fin 1000, V (Proc.tc.devRef main_v36_1) (ix1 j) = BitVec.ofNat 32 j.val) (b : Fin 2) (j : Fin 1000) :
    STEP V (Proc.tc.devRef main_v36_4) (ix2 b j) = 1#1 ↔
      V (Proc.tc.devRef main_v36_4) (ix2 b j) = 1#1 ∧ ¬(k.val < j.val ∧ V (Proc.tc.devRef main_v36_4) (ix2 b k) = 1#1
        ∧ Box.thr < V (Proc.tc.devRef main_v36_0) (ix3 b k j)) := by
  rw [STEP_main_v36_4]
  unfold step_main_v36_4
  rw [hk]
  simp only [id_eq]
  generalize hR : Host.dynamicSlice S2x1 _ _ _ = R
  generalize hQ : Host.dynamicSlice S2x1x1000 _ _ _ = Q
  have eR : R (ix2 b 0) = V (Proc.tc.devRef main_v36_4) (ix2 b k) := by
    rw [← hR]
    exact row_mask _ _ _ rfl (turn k) b
  have eQ : Q (ix3 b 0 j) = V (Proc.tc.devRef main_v36_0) (ix3 b k j) := by
    rw [← hQ]
    exact row_share _ _ _ rfl (turn k) rfl b j
  clear hR hQ
  pointwise
  rw [eR, eQ, hp]
  rw [WordCmp.cmpi_sgt_eq, WordCmp.toInt_ofNat_of_lt (by omega), WordCmp.toInt_ofNat_of_lt (by omega), Bool.decide_congr Nat.cast_lt]
  exact mask_bit _ _ _ _

/-- The trip's number counts up. -/
theorem step_count (k : ℕ) (hk : V (Proc.tc.devRef main_v36_3) = constantI S_ 32 (BitVec.ofNat 32 k)) :
    STEP V (Proc.tc.devRef main_v36_3) = constantI S_ 32 (BitVec.ofNat 32 (k + 1)) := by
  rw [STEP_main_v36_3]
  unfold step_main_v36_3
  rw [hk]
  funext i
  show BitVec.ofNat 32 k + 1#32 = BitVec.ofNat 32 (k + 1)
  rw [BitVec.ofNat_add]

variable {a0 : FVec Ideal (⟨4, ![2, 3, 200, 200]⟩ : Shape) .f32} {a1 : FVec Ideal (⟨4, ![2, 12, 200, 200]⟩ : Shape) .f32}
  {a2 : FVec Ideal (⟨3, ![2, 120000, 4]⟩ : Shape) .f32} {E : Valuation τ sig (Elt Ideal)}

/-- After `k` trips. -/
theorem after_trips (h : Entry a0 a1 a2 E) : ∀ k : ℕ, k ≤ 1000 →
    STEP^[k] E (Proc.tc.devRef main_v36_0) = E (Proc.tc.devRef main_v36_0)
    ∧ STEP^[k] E (Proc.tc.devRef main_v36_1) = E (Proc.tc.devRef main_v36_1)
    ∧ STEP^[k] E (Proc.tc.devRef main_v36_3) = constantI S_ 32 (BitVec.ofNat 32 k)
    ∧ ∀ (b : Fin 2) (j : Fin 1000), STEP^[k] E (Proc.tc.devRef main_v36_4) (ix2 b j) = 1#1 ↔
      Nms.P (Box.validN (Spec.cand a0 a1 a2 b)) (Box.overN (Spec.cand a0 a1 a2 b)) k j.val := by
  intro k
  induction k with
  | zero =>
    intro _
    refine ⟨rfl, rfl, h.count, fun b j => (h.full b j).trans ?_⟩
    exact (and_iff_left j.isLt).symm
  | succ k ih =>
    intro hk
    obtain ⟨i0, i1, i3, i4⟩ := ih (by omega)
    rw [Function.iterate_succ_apply']
    refine ⟨(STEP_main_v36_0 _).trans i0, (STEP_main_v36_1 _).trans i1, step_count _ k i3, fun b j => ?_⟩
    rw [step_mask _ ⟨k, by omega⟩ i3 (fun j => by rw [i1]; exact h.place j) b j, i4, i4, i0, h.share, Nms.P_succ]
    rfl

end Cert.Proof.Ref
-- ==== Proof.RefOut.lean ====
/-
  The reference's result: the masked scores, ranked, and the rows of the boxes in that order.
-/
module

public import proofs.«01_k».proof.Proof.RefLoop
public import proofs.«01_k».proof.Proof.RefFrame

@[expose] public section

noncomputable section

namespace Cert.Proof.Ref

open Cert.ReferenceIdeal Cert.ReferenceIdeal.Gen Cert.ReferenceIdeal.Value
open Idealize.ShloMosaic Idealize.ShloMosaic.TcCoe Idealize.ShloMosaic.StableHlo
open Idealize.SL.Sem

section Stretches

variable (V : Valuation τ sig (Elt Ideal))

/-- The fill value. -/
theorem read_fill (i : S_.Idx) : (after hostOps0_8 V (Proc.tc.devRef main_cst_12) i : EReal) = Box.fill := by
  after_reads_at

open Classical in
/-- The masked scores. -/
theorem read_masked (b : Fin 2) (j : Fin 1000) (hf : ∀ i, (V (Proc.tc.devRef main_cst_12) i : EReal) = Box.fill) :
    (after hostOps0_9 V (Proc.tc.devRef main_v37) (ix2 b j) : EReal)
      = if V (Proc.tc.devRef main_v36_4) (ix2 b j) = 1#1 then V (Proc.tc.devRef main_values) (ix2 b j) else Box.fill := by
  after_reads_at
  exact congrArg (Scalar.select _ _) (hf ix0)

/-- The ranking of the masked scores. -/
theorem read_rank (b : Fin 2) (r : Fin 300) (s : Fin 1000 → EReal)
    (hs : ∀ k, (V (Proc.tc.devRef main_v37) (ix2 b k) : EReal) = s k) :
    (after hostOps0_10 V (Proc.tc.devRef main_values_13) (ix2 b r) : EReal) = s (Order.ranked s (r.castLE (by decide)))
    ∧ after hostOps0_10 V (Proc.tc.devRef main_indices_14) (ix2 b r) = BitVec.ofNat 32 (Order.ranked s (r.castLE (by decide))).val := by
  constructor
  · after_reads_at
    exact (Order.topK_of _ _ (by decide) b r s hs).1
  · after_reads_at
    exact (Order.topK_of _ _ (by decide) b r s hs).2

/-- The four corners side by side. -/
theorem read_rows (b : Fin 2) (j : Fin 1000) :
    (after hostOps0_10 V (Proc.tc.devRef main_v42) (ix3 b j 0) : EReal) = V (Proc.tc.devRef main_v10) (ix2 b j)
    ∧ (after hostOps0_10 V (Proc.tc.devRef main_v42) (ix3 b j 1) : EReal) = V (Proc.tc.devRef main_v14) (ix2 b j)
    ∧ (after hostOps0_10 V (Proc.tc.devRef main_v42) (ix3 b j 2) : EReal) = V (Proc.tc.devRef main_v18) (ix2 b j)
    ∧ (after hostOps0_10 V (Proc.tc.devRef main_v42) (ix3 b j 3) : EReal) = V (Proc.tc.devRef main_v22) (ix2 b j) := by
  refine ⟨?_, ?_, ?_, ?_⟩
  all_goals
    after_reads_at
    after_reads_at

/-- The rows in the new order. -/
theorem read_pick (b : Fin 2) (r : Fin 300) (q : Fin 4) (n : Fin 1000)
    (hn : V (Proc.tc.devRef main_indices_14) (ix2 b r) = BitVec.ofNat 32 n.val) :
    (after hostOps0_11 V (Proc.tc.devRef main_v43) (ix3 b r q) : EReal) = V (Proc.tc.devRef main_v42) (ix3 b n q) := by
  after_reads_at
  refine Gather.gather_apply _ _ _ b r q n ?_
  pointwise
  exact Gather.wrap _ n.val (by omega) _ hn

/-- The result: the picked rows, and the masked score beside each. -/
theorem read_result (b : Fin 2) (r : Fin 300) (q : Fin 5) :
    (after hostOps0_12 V (Proc.tc.devRef main_v45) (ix3 b r q) : EReal)
      = if h : q.val < 4 then V (Proc.tc.devRef main_v43) (ix3 b r ⟨q.val, h⟩) else V (Proc.tc.devRef main_values_13) (ix2 b r) := by
  after_reads_at

end Stretches

section Result

variable {a0 : FVec Ideal (⟨4, ![2, 3, 200, 200]⟩ : Shape) .f32} {a1 : FVec Ideal (⟨4, ![2, 12, 200, 200]⟩ : Shape) .f32}
  {a2 : FVec Ideal (⟨3, ![2, 120000, 4]⟩ : Shape) .f32} {X : Valuation τ sig (Elt Ideal)}

variable (a0 a1 a2) in
open Classical in
/-- The masked score of candidate `j`. -/
def masked (b : Fin 2) (j : Fin 1000) : EReal := if Spec.keep a0 a1 a2 b j.val then Spec.value a0 b j.val else Box.fill

/-- The candidate whose masked score ranks `r`-th is the one that fills row `r`. -/
theorem slot_ranked (b : Fin 2) (r : Fin 1000) :
    Nms.slot (Spec.keep a0 a1 a2 b) 1000 (Order.ranked (masked a0 a1 a2 b) r).val = r.val := by
  refine Nms.slot_sortedFrom _ _ (fun i j hij => ?_) r
  have hv := Spec.value_le a0 b (Fin.lt_def.mp hij) j.isLt
  have fi := Spec.fill_lt a0 b i.val
  have fj := Spec.fill_lt a0 b j.val
  unfold Order.before masked
  rw [decide_eq_true_iff]
  by_cases hi : Spec.keep a0 a1 a2 b i.val <;> by_cases hj : Spec.keep a0 a1 a2 b j.val <;>
    simp [hi, hj, hv, fj, fi.le]

/-- What the stretches after the loop leave, from what the loop leaves. -/
theorem read_out (hk : ∀ (b : Fin 2) (j : Fin 1000), X (Proc.tc.devRef main_v36_4) (ix2 b j) = 1#1 ↔ Spec.keep a0 a1 a2 b j.val)
    (hs : ∀ (b : Fin 2) (j : Fin 1000), (X (Proc.tc.devRef main_values) (ix2 b j) : EReal) = Spec.value a0 b j.val)
    (h1 : ∀ (b : Fin 2) (j : Fin 1000), (X (Proc.tc.devRef main_v10) (ix2 b j) : EReal) = Box.x1 (Spec.cand a0 a1 a2 b j.val))
    (h2 : ∀ (b : Fin 2) (j : Fin 1000), (X (Proc.tc.devRef main_v14) (ix2 b j) : EReal) = Box.y1 (Spec.cand a0 a1 a2 b j.val))
    (h3 : ∀ (b : Fin 2) (j : Fin 1000), (X (Proc.tc.devRef main_v18) (ix2 b j) : EReal) = Box.x2 (Spec.cand a0 a1 a2 b j.val))
    (h4 : ∀ (b : Fin 2) (j : Fin 1000), (X (Proc.tc.devRef main_v22) (ix2 b j) : EReal) = Box.y2 (Spec.cand a0 a1 a2 b j.val))
    (b : Fin 2) (r : Fin 300) (q : Fin 5) :
    (afterL postI X (Proc.tc.devRef main_v45) (ix3 b r q) : EReal)
      = Spec.entry a0 a1 a2 b (Order.ranked (masked a0 a1 a2 b) (r.castLE (by decide))).val q := by
  let X1 := after hostOps0_8 X
  let X2 := after hostOps0_9 X1
  let X3 := after hostOps0_10 X2
  let X4 := after hostOps0_11 X3
  have k8 : ∀ r : Ref sig .tc, r ∉ hostOps0_8_W → X1 (Proc.tc.devRef r) = X (Proc.tc.devRef r) := fun r h =>
    after_of_writes_sub _ _ hostOps0_8_writes h
  have k9 : ∀ r : Ref sig .tc, r ∉ hostOps0_8_W → r ∉ hostOps0_9_W → X2 (Proc.tc.devRef r) = X (Proc.tc.devRef r) := fun r h h' =>
    (after_of_writes_sub _ _ hostOps0_9_writes h').trans (k8 r h)
  have hm : ∀ k, (X2 (Proc.tc.devRef main_v37) (ix2 b k) : EReal) = masked a0 a1 a2 b k := by
    intro k
    refine (read_masked X1 b k (read_fill X)).trans ?_
    rw [k8 main_v36_4 (by decide), k8 main_values (by decide), hs]
    unfold masked
    by_cases h : Spec.keep a0 a1 a2 b k.val
    · rw [if_pos ((hk b k).2 h), if_pos h]
    · rw [if_neg (fun h' => h ((hk b k).1 h')), if_neg h]
  obtain ⟨e1, e2⟩ := read_rank X2 b r _ hm
  obtain ⟨c1, c2, c3, c4⟩ := read_rows X2 b (Order.ranked (masked a0 a1 a2 b) (r.castLE (by decide)))
  rw [k9 main_v10 (by decide) (by decide), h1] at c1
  rw [k9 main_v14 (by decide) (by decide), h2] at c2
  rw [k9 main_v18 (by decide) (by decide), h3] at c3
  rw [k9 main_v22 (by decide) (by decide), h4] at c4
  have hp := fun q => read_pick X3 b r q _ e2
  refine (read_result X4 b r q).trans ?_
  match q with
  | 0 => exact (hp 0).trans c1
  | 1 => exact (hp 1).trans c2
  | 2 => exact (hp 2).trans c3
  | 3 => exact (hp 3).trans c4
  | 4 =>
    have e : X4 (Proc.tc.devRef main_values_13) = X3 (Proc.tc.devRef main_values_13) := after_of_writes_sub _ _ hostOps0_11_writes (by decide)
    exact (congrFun e _).trans e1

/-- The reference's result, entry by entry. -/
theorem final_apply (m : (ℓ : Loc nD τ sig) → Buf (Elt Ideal) ℓ) (c : Dev nD) (b : Fin 2) (r : Fin 300) (q : Fin 5) :
    (finalContents condOps preI bodyI postI 1000 m c (Proc.devRef .tc main_v45) (ix3 b r q) : EReal)
      = Spec.entry (m (c, Proc.tc.devRef main_arg0)) (m (c, Proc.tc.devRef main_arg1)) (m (c, Proc.tc.devRef main_arg2)) b
          (Order.ranked (masked (m (c, Proc.tc.devRef main_arg0)) (m (c, Proc.tc.devRef main_arg1)) (m (c, Proc.tc.devRef main_arg2)) b)
            (r.castLE (by decide))).val q := by
  have hE : Entry (m (c, Proc.tc.devRef main_arg0)) (m (c, Proc.tc.devRef main_arg1)) (m (c, Proc.tc.devRef main_arg2)) (entryContents preI m c) :=
    entry (fun b => m (c, b))
  have keep : ∀ r : Ref sig .tc, r ∉ condOps_W → r ∉ while0Ops0_W →
      after condOps (atTrip condOps bodyI (entryContents preI m) 1000 c) (Proc.tc.devRef r) = entryContents preI m c (Proc.tc.devRef r) :=
    fun r hc hb => (after_of_writes_sub _ _ condOps_writes hc).trans (atTrip_keep m c r hc hb 1000)
  have hmask : after condOps (atTrip condOps bodyI (entryContents preI m) 1000 c) (Proc.tc.devRef main_v36_4)
      = STEP^[1000] (entryContents preI m c) (Proc.tc.devRef main_v36_4) :=
    (cond_keeps _ main_v36_4 (by decide)).trans (atK_agree m c 1000 main_v36_4 (by decide))
  refine read_out (X := after condOps (atTrip condOps bodyI (entryContents preI m) 1000 c)) (fun b j => ?_) (fun b j => ?_)
    (fun b j => ?_) (fun b j => ?_) (fun b j => ?_) (fun b j => ?_) b r q
  · rw [hmask, (after_trips hE 1000 le_rfl).2.2.2 b j]
    exact Nms.P_stop j.isLt.le
  · rw [keep _ (by decide) (by decide)]; exact hE.scores b j
  · rw [keep _ (by decide) (by decide)]; exact hE.x1 b j
  · rw [keep _ (by decide) (by decide)]; exact hE.y1 b j
  · rw [keep _ (by decide) (by decide)]; exact hE.x2 b j
  · rw [keep _ (by decide) (by decide)]; exact hE.y2 b j

end Result

end Cert.Proof.Ref
-- ==== Proof.Algebraic.lean ====
/-
  The value claim: the kernel's program and the reference, from the same arguments, end with the same result.
-/
module

public import proofs.«01_k».proof.Proof.KArr
public import proofs.«01_k».proof.Proof.RefOut

@[expose] public section

noncomputable section

namespace Cert.Proof

open Idealize.ShloMosaic Idealize.ShloMosaic.TcCoe Idealize.SL.Sem

/-- The two results agree at every entry. -/
theorem results_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' (c, Proc.tc.devRef ReferenceIdeal.main_arg0) = m (c, Proc.tc.devRef KernelIdeal.main_arg0))
    (h1 : m' (c, Proc.tc.devRef ReferenceIdeal.main_arg1) = m (c, Proc.tc.devRef KernelIdeal.main_arg1))
    (h2 : m' (c, Proc.tc.devRef ReferenceIdeal.main_arg2) = m (c, Proc.tc.devRef KernelIdeal.main_arg2)) :
    StableHlo.finalContents ReferenceIdeal.Value.condOps ReferenceIdeal.Value.preI ReferenceIdeal.Value.bodyI ReferenceIdeal.Value.postI 1000 m' c (Proc.tc.devRef ReferenceIdeal.main_v45)
      = Pipeline.afterTail₀ KernelIdeal.cfgs (KernelIdeal.Gen.dats m) 0 (KernelIdeal.Gen.V0 m) [KernelIdeal.Gen.hostOps1] c
          KernelIdeal.main_v25 := by
  funext i
  obtain ⟨b, r, q, rfl⟩ : ∃ (b : Fin 2) (r : Fin 300) (q : Fin 5), ix3 b r q = i := ⟨i 0, i 1, i 2, ix3_eta i⟩
  refine (Ref.final_apply m' c b r q).trans ?_
  rw [h0, h1, h2]
  have hs := Ref.slot_ranked (a0 := m (c, Proc.tc.devRef KernelIdeal.main_arg0)) (a1 := m (c, Proc.tc.devRef KernelIdeal.main_arg1))
    (a2 := m (c, Proc.tc.devRef KernelIdeal.main_arg2)) b (r.castLE (by decide))
  generalize Order.ranked _ _ = j at hs ⊢
  exact (K.result_apply m c b ⟨j.val, by omega⟩ j.isLt r hs q).symm

/-- The kernel's program and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Pipeline.afterTail₀ KernelIdeal.cfgs (KernelIdeal.Gen.dats m) 0 (KernelIdeal.Gen.V0 m) [KernelIdeal.Gen.hostOps1] c
    KernelIdeal.main_v25, ?_, ?_⟩
  · refine (θ_run _ _ _).mono (fun r h c => ⟨(h.1 c).2 KernelIdeal.main_v25
      (Pipeline.mem_restRefs_of KernelIdeal.main_v25 (by decide) (by decide)), h.2 c⟩)
      (θ_run_and (KernelIdeal.Gen.run_main m g) (KernelIdeal.Gen.unchanged m g))
  · refine (θ_run _ _ _).mono (fun r h c => ⟨(h c).1.trans ?_, (h c).2⟩) (Ref.ref_run m' g')
    exact results_agree m m' c (hargs c).1 (hargs c).2.1 (hargs c).2.2

end Cert.Proof
-- ==== Proof.lean ====
/- The certificate's claims, assembled: the frames of the kernel and of the reference, that the ideal program
   is the kernel's own text, and that the kernel and the reference compute the same result. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Ref.ref_frame, trivial, algebraic⟩

end Cert.Proof

end
